-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x512 : Shape := ⟨2, ![512, 512]⟩
abbrev S8 : Shape := ⟨1, ![8]⟩
abbrev S_ : Shape := ⟨0, ![]⟩
abbrev S64x512 : Shape := ⟨2, ![64, 512]⟩
abbrev S1 : Shape := ⟨1, ![1]⟩

abbrev nBuf : Space → Nat
  | .hbm => 2
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_12 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v17 : BitVec 32 := Scalar.muli v5 c512_i32
  let v18 : BitVec 32 := Scalar.addi v17 c0_i32_12
  let v19 : Index := Scalar.indexCast v18
  let c0 : Index := 0#32
  ![v19.toNat, 0]
def k0_dev3 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v26 : BitVec 32 := Scalar.muli v6 c2_i32_17
  let v27 : BitVec 32 := Scalar.addi c0_i32_18 v26
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v28 : BitVec 32 := Scalar.muli v5 c1_i32_19
  let v29 : BitVec 32 := Scalar.addi v27 v28
  v29.toNat
def k0_dev4 (d0 : Dev nD) : Nat :=
  let c0_i32_29 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_28 : BitVec 32 := 2#32
  let v44 : BitVec 32 := Scalar.muli v6 c2_i32_28
  let v45 : BitVec 32 := Scalar.addi c0_i32_29 v44
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_30 : BitVec 32 := 1#32
  let v46 : BitVec 32 := Scalar.muli v5 c1_i32_30
  let v47 : BitVec 32 := Scalar.addi v45 v46
  v47.toNat
def k0_dev5 (d0 : Dev nD) : Nat :=
  let c0_i32_40 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_39 : BitVec 32 := 2#32
  let v62 : BitVec 32 := Scalar.muli v6 c2_i32_39
  let v63 : BitVec 32 := Scalar.addi c0_i32_40 v62
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v64 : BitVec 32 := Scalar.muli v5 c1_i32_41
  let v65 : BitVec 32 := Scalar.addi v63 v64
  v65.toNat
def k0_dev6 (d0 : Dev nD) : Nat :=
  let c0_i32_50 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_49 : BitVec 32 := 2#32
  let v80 : BitVec 32 := Scalar.muli v6 c2_i32_49
  let v81 : BitVec 32 := Scalar.addi c0_i32_50 v80
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_51 : BitVec 32 := 1#32
  let v82 : BitVec 32 := Scalar.muli v5 c1_i32_51
  let v83 : BitVec 32 := Scalar.addi v81 v82
  v83.toNat
def k0_dev7 (d0 : Dev nD) : Nat :=
  let c0_i32_60 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_59 : BitVec 32 := 2#32
  let v98 : BitVec 32 := Scalar.muli v6 c2_i32_59
  let v99 : BitVec 32 := Scalar.addi c0_i32_60 v98
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_61 : BitVec 32 := 1#32
  let v100 : BitVec 32 := Scalar.muli v5 c1_i32_61
  let v101 : BitVec 32 := Scalar.addi v99 v100
  v101.toNat
def k0_dev8 (d0 : Dev nD) : Nat :=
  let c0_i32_70 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_69 : BitVec 32 := 2#32
  let v116 : BitVec 32 := Scalar.muli v6 c2_i32_69
  let v117 : BitVec 32 := Scalar.addi c0_i32_70 v116
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_71 : BitVec 32 := 1#32
  let v118 : BitVec 32 := Scalar.muli v5 c1_i32_71
  let v119 : BitVec 32 := Scalar.addi v117 v118
  v119.toNat
def k0_dev9 (d0 : Dev nD) : Nat :=
  let c0_i32_80 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_79 : BitVec 32 := 2#32
  let v134 : BitVec 32 := Scalar.muli v6 c2_i32_79
  let v135 : BitVec 32 := Scalar.addi c0_i32_80 v134
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_81 : BitVec 32 := 1#32
  let v136 : BitVec 32 := Scalar.muli v5 c1_i32_81
  let v137 : BitVec 32 := Scalar.addi v135 v136
  v137.toNat
def k0_dev10 (d0 : Dev nD) : Nat :=
  let c0_i32_90 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_89 : BitVec 32 := 2#32
  let v152 : BitVec 32 := Scalar.muli v6 c2_i32_89
  let v153 : BitVec 32 := Scalar.addi c0_i32_90 v152
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_91 : BitVec 32 := 1#32
  let v154 : BitVec 32 := Scalar.muli v5 c1_i32_91
  let v155 : BitVec 32 := Scalar.addi v153 v154
  v155.toNat
def k0_dev11 (d0 : Dev nD) : Nat :=
  let c0_i32_115 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_114 : BitVec 32 := 2#32
  let v183 : BitVec 32 := Scalar.muli v2 c2_i32_114
  let v184 : BitVec 32 := Scalar.addi c0_i32_115 v183
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_116 : BitVec 32 := 1#32
  let v185 : BitVec 32 := Scalar.muli v7 c1_i32_116
  let v186 : BitVec 32 := Scalar.addi v184 v185
  v186.toNat
def k0_dev12 (d0 : Dev nD) : Nat :=
  let c0_i32_140 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_139 : BitVec 32 := 2#32
  let v214 : BitVec 32 := Scalar.muli v2 c2_i32_139
  let v215 : BitVec 32 := Scalar.addi c0_i32_140 v214
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_141 : BitVec 32 := 1#32
  let v216 : BitVec 32 := Scalar.muli v7 c1_i32_141
  let v217 : BitVec 32 := Scalar.addi v215 v216
  v217.toNat
def k0_dev13 (d0 : Dev nD) : Nat :=
  let c0_i32_165 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_164 : BitVec 32 := 2#32
  let v245 : BitVec 32 := Scalar.muli v2 c2_i32_164
  let v246 : BitVec 32 := Scalar.addi c0_i32_165 v245
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_166 : BitVec 32 := 1#32
  let v247 : BitVec 32 := Scalar.muli v7 c1_i32_166
  let v248 : BitVec 32 := Scalar.addi v246 v247
  v248.toNat
def k0_dev14 (d0 : Dev nD) : Nat :=
  let c0_i32_190 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_189 : BitVec 32 := 2#32
  let v276 : BitVec 32 := Scalar.muli v2 c2_i32_189
  let v277 : BitVec 32 := Scalar.addi c0_i32_190 v276
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_191 : BitVec 32 := 1#32
  let v278 : BitVec 32 := Scalar.muli v7 c1_i32_191
  let v279 : BitVec 32 := Scalar.addi v277 v278
  v279.toNat
def k0_dev15 (d0 : Dev nD) : Nat :=
  let c0_i32_215 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_214 : BitVec 32 := 2#32
  let v307 : BitVec 32 := Scalar.muli v2 c2_i32_214
  let v308 : BitVec 32 := Scalar.addi c0_i32_215 v307
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_216 : BitVec 32 := 1#32
  let v309 : BitVec 32 := Scalar.muli v7 c1_i32_216
  let v310 : BitVec 32 := Scalar.addi v308 v309
  v310.toNat
def k0_dev16 (d0 : Dev nD) : Nat :=
  let c0_i32_240 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_239 : BitVec 32 := 2#32
  let v338 : BitVec 32 := Scalar.muli v2 c2_i32_239
  let v339 : BitVec 32 := Scalar.addi c0_i32_240 v338
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_241 : BitVec 32 := 1#32
  let v340 : BitVec 32 := Scalar.muli v7 c1_i32_241
  let v341 : BitVec 32 := Scalar.addi v339 v340
  v341.toNat
def k0_dev17 (d0 : Dev nD) : Nat :=
  let c0_i32_265 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_264 : BitVec 32 := 2#32
  let v369 : BitVec 32 := Scalar.muli v2 c2_i32_264
  let v370 : BitVec 32 := Scalar.addi c0_i32_265 v369
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_266 : BitVec 32 := 1#32
  let v371 : BitVec 32 := Scalar.muli v7 c1_i32_266
  let v372 : BitVec 32 := Scalar.addi v370 v371
  v372.toNat
def k0_dev18 (d0 : Dev nD) : Nat :=
  let c0_i32_290 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_289 : BitVec 32 := 2#32
  let v400 : BitVec 32 := Scalar.muli v2 c2_i32_289
  let v401 : BitVec 32 := Scalar.addi c0_i32_290 v400
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_291 : BitVec 32 := 1#32
  let v402 : BitVec 32 := Scalar.muli v7 c1_i32_291
  let v403 : BitVec 32 := Scalar.addi v401 v402
  v403.toNat
def k0_off2 (d0 : Dev nD) (c0_i32_309 : BitVec 32) : Fin 2 → Nat :=
  let c1_i32_296 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v410 : BitVec 32 := Scalar.subi c1_i32_296 v5
  let c512_i32_297 : BitVec 32 := 512#32
  let v411 : BitVec 32 := Scalar.muli v410 c512_i32_297
  let v422 : BitVec 32 := Scalar.addi v411 c0_i32_309
  let v423 : Index := Scalar.indexCast v422
  let c0_310 : Index := 0#32
  ![v423.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩
abbrev S2x1024x512 : Shape := ⟨3, ![2, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2x1024x512, .f32⟩
  | .hbm, ⟨2, _⟩ => ⟨S_, .f32⟩
  | .hbm, ⟨3, _⟩ => ⟨S1024x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdealCells.lean ====
/-
The devices, buffers, chunks and semaphore cells of the two-axis all-reduce, and what each chunk holds.

Device `c` of the 2×2 mesh is `2 * x + y`. `nx c` is its neighbour across the first mesh axis (the other `x`), `ny c`
across the second. The 1024 rows of a device's block are two halves of eight chunks of 64 rows: the half its `y` names
is summed by the device itself with `nx c`, the other half it receives summed from `ny c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The mesh -/

set_option backward.proofsInPublic true in
/-- The neighbour across the first mesh axis. -/
def nx (c : Dev nD) : Dev nD := ⟨((c.val % 2) + 2) - 2 * (c.val / 2), by have := c.isLt; show _ < 4; omega⟩
set_option backward.proofsInPublic true in
/-- The neighbour across the second mesh axis. -/
def ny (c : Dev nD) : Dev nD := ⟨(2 * (c.val / 2) + 1) - (c.val % 2), by have : c.val < 4 := c.isLt; show _ < 4; omega⟩

theorem nx_nx (c : Dev nD) : nx (nx c) = c := by revert c; decide
theorem ny_ny (c : Dev nD) : ny (ny c) = c := by revert c; decide
theorem nx_ne_ny (c : Dev nD) : nx c ≠ ny c := by revert c; decide
theorem nx_mod (c : Dev nD) : (nx c).val % 2 = c.val % 2 := by revert c; decide
theorem nx_div (c : Dev nD) : (nx c).val / 2 = 1 - c.val / 2 := by revert c; decide
theorem ny_mod (c : Dev nD) : (ny c).val % 2 = 1 - c.val % 2 := by revert c; decide
theorem ny_div (c : Dev nD) : (ny c).val / 2 = c.val / 2 := by revert c; decide

/-- Both neighbour maps are permutations of the devices, their own inverses. -/
def nxE : Dev nD ≃ Dev nD := ⟨nx, nx, nx_nx, nx_nx⟩
def nyE : Dev nD ≃ Dev nD := ⟨ny, ny, ny_ny, ny_ny⟩

/-! ## The buffers and their chunks -/

abbrev xM : Memref sig .tc .vmem S1024x512 .f32 := Memref.whole cc0_stg0_0
abbrev oM : Memref sig .tc .vmem S1024x512 .f32 := Memref.whole cc0_stg1_0
abbrev xsM : Memref sig .tc .vmem S512x512 .bf16 := Memref.whole cc0_scratch0
abbrev xrM : Memref sig .tc .vmem S512x512 .bf16 := Memref.whole cc0_scratch1
abbrev ysM : Memref sig .tc .vmem S512x512 .bf16 := Memref.whole cc0_scratch2
abbrev yrM : Memref sig .tc .vmem S512x512 .bf16 := Memref.whole cc0_scratch3

theorem chunk_inb (r : Fin 8) : ∀ a, (![64 * r.val, 0] : Fin 2 → Nat) a + S64x512.size a ≤ S512x512.size a := by
  revert r; decide

/-- The rectangle of chunk `r` of a 512-row buffer. -/
abbrev chR (r : Fin 8) : Rect S512x512 := Rect.unit (s := S512x512) ![64 * r.val, 0] S64x512.size (chunk_inb r)
/-- Chunk `r` of a 512-row buffer. -/
abbrev chunk (M : Memref sig .tc .vmem S512x512 .bf16) (r : Fin 8) : Memref sig .tc .vmem S64x512 .bf16 :=
  M.slice (chR r) (fun _ => rfl)

/-- The first row of chunk `r` of the half device `c` sums itself (`false`) or of the other half (`true`). -/
def orow (c : Dev nD) (b : Bool) (r : Fin 8) : ℕ :=
  if b then (64 * r.val + 512) - 512 * (c.val % 2) else 512 * (c.val % 2) + 64 * r.val

theorem orow_inb (c : Dev nD) (b : Bool) (r : Fin 8) :
    ∀ a, (![orow c b r, 0] : Fin 2 → Nat) a + S64x512.size a ≤ S1024x512.size a := by
  revert c b r; decide

/-- The rectangle of chunk `r` of that half in a device's 1024 rows. -/
abbrev oR (c : Dev nD) (t : Bool × Fin 8) : Rect S1024x512 :=
  Rect.unit (s := S1024x512) ![orow c t.1 t.2, 0] S64x512.size (orow_inb c t.1 t.2)
/-- That chunk of the result buffer. -/
abbrev oChunk (c : Dev nD) (t : Bool × Fin 8) : Memref sig .tc .vmem S64x512 .f32 := oM.slice (oR c t) (fun _ => rfl)

theorem off1_eq (c : Dev nD) (r : Fin 8) : k0_off1 c (BitVec.ofNat 32 (64 * r.val)) = ![orow c false r, 0] := k0_off1_eq c r
theorem off2_eq (c : Dev nD) (r : Fin 8) : k0_off2 c (BitVec.ofNat 32 (64 * r.val)) = ![orow c true r, 0] := k0_off2_eq c r

/-! ## The semaphores and cells -/

/-- The runtime's barrier semaphore. -/
abbrev barS : Sem sig := (SemArray.scalar (sig.barrier 0 rfl) : Sems sig S_).sem

set_option backward.proofsInPublic true in
/-- The DMA semaphore of chunk `r` in the `k`-th array: 0 the first axis's sends, 1 its receives, 2 and 3 the second axis's. -/
def dsem (k : Fin 4) (r : Fin 8) : DmaSem sig := ⟨2 + 8 * k.val + r.val, by show _ < 34; omega⟩

/-- A device's cells: the barrier's, and one per DMA semaphore. -/
abbrev Cid : Type := Option (Fin 4 × Fin 8)

abbrev osem : Fin 4 × Fin 8 → SemLoc sig := fun kr => .dma (dsem kr.1 kr.2)
abbrev csem : Cid → SemLoc sig := fun
  | none => .reg barS
  | some kr => osem kr
abbrev kcell (ck : Dev nD × Cid) : GSem nD τ sig := ((ck.1 : Thread nD τ), csem ck.2)

abbrev barCell (c : Dev nD) : GSem nD τ sig := kcell (c, none)
abbrev dCell (c : Dev nD) (k : Fin 4) (r : Fin 8) : GSem nD τ sig := kcell (c, some (k, r))

/-- Which array and which chunk a DMA semaphore of the kernel is for. -/
def kOf (q : DmaSem sig) : ℕ := (q.val - 2) / 8
def rOf (q : DmaSem sig) : Fin 8 := ⟨(q.val - 2) % 8, Nat.mod_lt _ (by decide)⟩

theorem kOf_dsem (k : Fin 4) (r : Fin 8) : kOf (dsem k r) = k.val := by revert k r; decide
theorem rOf_dsem (k : Fin 4) (r : Fin 8) : rOf (dsem k r) = r := by revert k r; decide
theorem two_le_dsem (k : Fin 4) (r : Fin 8) : 2 ≤ (dsem k r).val := by revert k r; decide

/-- The credit of one chunk's transfer. -/
abbrev N : ℕ := (chunk xrM 0).view.dmaCredit
theorem N_pos : 0 < N := View.dmaCredit_pos _ (by decide)

/-! ## What the chunks hold -/

variable (m : (ℓ : Loc nD τ sig) → Buf (Elt F) ℓ)

/-- Device `c`'s block of `x`, as staged. -/
def xstg (c : Dev nD) : (cc0_stg0_0 : Ref sig .tc).ty.Contents (Elt F) :=
  (win0_0.blk (0 : Fin 1)).view.read (Elt F) (m ((c : Thread nD τ).loc main_arg0))

/-- Chunk `r` of the half device `c` sums, of its own block. -/
def xv (c : Dev nD) (r : Fin 8) : Vec F S64x512 .f32 := (xM.access (oR c (false, r))).read (Elt F) (xstg m c)
/-- What device `c` sends across the first axis; -/
def XS (c : Dev nD) (r : Fin 8) : FVec F S64x512 .bf16 := k0_pay1 (xv m c r)
/-- the sum it computes; -/
def SUM (c : Dev nD) (r : Fin 8) : FVec F S64x512 .f32 := k0_pay10 (xv m c r) (XS m (nx c) r)
/-- what it sends across the second axis; -/
def YS (c : Dev nD) (r : Fin 8) : FVec F S64x512 .bf16 := k0_pay11 (xv m c r) (XS m (nx c) r)
/-- and the sum it receives. -/
def OTH (c : Dev nD) (r : Fin 8) : FVec F S64x512 .f32 := k0_pay26 (YS m (ny c) r)
/-- The result's chunks: its own half and the received one. -/
def res (c : Dev nD) (t : Bool × Fin 8) : FVec F S64x512 .f32 := if t.1 then OTH m c t.2 else SUM m c t.2

end Cert.KernelIdealRun

end
-- ==== Proof.KernelIdealSched.lean ====
/-
The protocol: which credits each cell expects and what each of them hands over, and the levels that order the waits.

A device's barrier cell expects one unit from each neighbour, which hands over that neighbour's landing chunks. A DMA
cell expects one transfer's credit: a receive cell's hands over the chunk landed, a send cell's the chunk read.
-/
module

public import proofs.«01_k».proof.Proof.KernelIdealCells

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost algebra: duties named by `Bool`; beside it the staging pipeline's own. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What the cells hand over -/

/-- Chunk `r` of a 512-row buffer of device `c`, holding `X`; -/
def has (c : Dev nD) (M : Memref sig .tc .vmem S512x512 .bf16) (r : Fin 8) (X : S64x512.Idx → Elt F .bf16) : sProp 𝕄 :=
  owns (c : Thread nD τ) (chunk M r) fullShare X
/-- holding anything; -/
def any (c : Dev nD) (M : Memref sig .tc .vmem S512x512 .bf16) (r : Fin 8) : sProp 𝕄 := iprop(∃ X, has c M r X)
/-- and all eight of them. -/
def anyAll (c : Dev nD) (M : Memref sig .tc .vmem S512x512 .bf16) : sProp 𝕄 := bigSep Finset.univ fun r => any c M r

instance has_storable (c : Dev nD) (M : Memref sig .tc .vmem S512x512 .bf16) (r : Fin 8) (X) :
    BI.Storable (upEmb : UEmb _ 𝕄) (has (F := F) c M r X) := by unfold has; infer_instance
instance any_storable (c : Dev nD) (M : Memref sig .tc .vmem S512x512 .bf16) (r : Fin 8) :
    BI.Storable (upEmb : UEmb _ 𝕄) (any (F := F) c M r) := by unfold any; infer_instance
instance anyAll_storable (c : Dev nD) (M : Memref sig .tc .vmem S512x512 .bf16) :
    BI.Storable (upEmb : UEmb _ 𝕄) (anyAll (F := F) c M) := by unfold anyAll; infer_instance

/-- A barrier unit of device `c`: from `nx c` (`false`) its first-axis landing chunks, from `ny c` its second-axis ones. -/
def barPay (c : Dev nD) (d : Bool) : sProp 𝕄 := if d then anyAll (ny c) yrM else anyAll (nx c) xrM

/-- A transfer's credit at device `c`'s cell of array `k`, chunk `r`. -/
def dmaPay (c : Dev nD) (k : ℕ) (r : Fin 8) : sProp 𝕄 :=
  if k = 0 then has c xsM r (XS m c r)
  else if k = 1 then has c xrM r (XS m (nx c) r)
  else if k = 2 then has c ysM r (YS m c r)
  else has c yrM r (YS m (ny c) r)

def pay (c : Dev nD) (s : SemLoc sig) (d : Bool) : sProp 𝕄 :=
  match s with
  | .reg _ => barPay c d
  | .dma q => dmaPay m c (kOf q) (rOf q)

instance pay_storable (c : Dev nD) (s : SemLoc sig) (d : Bool) : BI.Storable (upEmb : UEmb _ 𝕄) (pay (F := F) m c s d) := by
  cases s <;> unfold pay <;> dsimp only
  · unfold barPay; split <;> infer_instance
  · unfold dmaPay; (repeat' split) <;> infer_instance

/-- The duties of a cell's one round: a barrier's two, a transfer cell's one, a staging cell's none. -/
def dutiesOf : SemLoc sig → Finset Bool
  | .reg _ => Finset.univ
  | .dma q => if 2 ≤ q.val then {false} else ∅
def amountOf : SemLoc sig → ℕ
  | .reg _ => 1
  | .dma _ => N

/-- One round, round 0, at every cell of every TensorCore. -/
def Rd : Rounds.Schedule (GSem nD τ sig) Bool 𝕄 where
  duties g r := if r = 0 ∧ g.1.2 = .tc then dutiesOf g.2 else ∅
  unitless _ := False
  amount g _ _ := amountOf g.2
  payload g _ d := pay m g.1.1 g.2 d
  amount_pos g _ _ _ := by
    unfold amountOf; split
    · exact Nat.one_pos
    · exact N_pos

instance Rd_payload_storable (g : GSem nD τ sig) (r : ℕ) (d : Bool) :
    BI.Storable (upEmb : UEmb _ 𝕄) ((Rd (F := F) m).payload g r d) := pay_storable m _ _ _

section Sched
variable (c : Dev nD) (k : Fin 4) (r : Fin 8)

theorem duties_bar : (Rd (F := F) m).duties (barCell c) 0 = Finset.univ := by dsimp only [Rd]; exact if_pos ⟨rfl, rfl⟩
theorem duties_dma : (Rd (F := F) m).duties (dCell c k r) 0 = {false} := by
  dsimp only [Rd]; rw [if_pos ⟨rfl, rfl⟩]; exact if_pos (two_le_dsem k r)
theorem duties_later (g : GSem nD τ sig) : ∀ n, 1 ≤ n → (Rd (F := F) m).duties g n = ∅ :=
  fun n hn => by dsimp only [Rd]; rw [if_neg fun h => by omega]
theorem amount_bar (d : Bool) : (Rd (F := F) m).amount (barCell c) 0 d = 1 := rfl
theorem amount_dma (d : Bool) : (Rd (F := F) m).amount (dCell c k r) 0 d = N := rfl

theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (Rd (F := F) m).expect (dCell c k r) 0 = N := by
  unfold Schedule.expect Schedule.amountOf; rw [duties_dma, Finset.sum_singleton, amount_dma]

theorem payload_bar (d : Bool) : (Rd (F := F) m).payload (barCell c) 0 d = barPay c d := rfl
theorem payload_dma (d : Bool) : (Rd (F := F) m).payload (dCell c k r) 0 d = dmaPay m c k.val r := by
  show dmaPay m c (kOf (dsem k r)) (rOf (dsem k r)) = _
  rw [kOf_dsem, rOf_dsem]

/-- All a barrier cell's round hands over. -/
theorem rest_bar : bigSep ((Rd (F := F) m).duties (barCell c) 0 \ ∅) (fun d => (Rd (F := F) m).payload (barCell c) 0 d)
    = iprop(anyAll (nx c) xrM ∗ anyAll (ny c) yrM) := by
  rw [Finset.sdiff_empty, duties_bar, bigSep_univ_eq_bigSepL [false, true] (by decide) (by decide), bigSepL_cons_cons, bigSepL_singleton]
  rfl
/-- All a transfer cell's round hands over. -/
theorem rest_dma : bigSep ((Rd (F := F) m).duties (dCell c k r) 0 \ ∅) (fun d => (Rd (F := F) m).payload (dCell c k r) 0 d)
    = dmaPay m c k.val r := by
  rw [Finset.sdiff_empty, duties_dma, bigSep_singleton, payload_dma]

end Sched

/-! ## The levels -/

def L (g : GSem nD τ sig) : Finset Unit := if g.1.2 = .tc then {()} else ∅
/-- Barriers at 1, first-axis receives at 2, second-axis receives at 3, everything else at 0. -/
def lvS : SemLoc sig → ℕ
  | .reg _ => 1
  | .dma q => if 2 ≤ q.val ∧ kOf q = 1 then 2 else if 2 ≤ q.val ∧ kOf q = 3 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- All that `O` owes is to TensorCores' cells of level above `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem Above.tallyAt {n : ℕ} (c : Dev nD) (i : Cid) (k : ℕ) (h : n < lvS (csem i)) : Above n (tallyAt (kcell (c, i)) () k) := fun g u hp => by
  rw [tallyAt_apply] at hp
  split at hp
  · next hg => rw [hg.1]; exact ⟨rfl, h⟩
  · exact absurd hp (Nat.lt_irrefl 0)
theorem Above.sum {n : ℕ} {I : Type} [DecidableEq I] (S : Finset I) (O : I → CellTallies nD τ sig Unit) (h : ∀ i ∈ S, Above n (O i)) :
    Above n (∑ i ∈ S, O i) := by
  induction S using Finset.induction_on with
  | empty => rw [Finset.sum_empty]; exact Above.zero n
  | insert i S hi ih =>
    rw [Finset.sum_insert hi]
    exact (h i (Finset.mem_insert_self _ _)).add (ih fun j hj => h j (Finset.mem_insert_of_mem hj))
theorem Above.mono {n n' : ℕ} {O : CellTallies nD τ sig Unit} (h : Above n O) (hn : n' ≤ n) : Above n' O :=
  fun g u hp => ⟨(h g u hp).1, lt_of_le_of_lt hn (h g u hp).2⟩

/-- A device may wait on a cell whose level is at most `n` while it owes only cells above `n`. -/
theorem mayWait (c : Dev nD) (s : SemLoc sig) (n : ℕ) (hs : lvS s ≤ n) {O : CellTallies nD τ sig Unit} (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

/-! ## What a device owes -/

/-- The chunks from the `n`-th on, and those before it. -/
def todo (n : ℕ) : Finset (Fin 8) := Finset.univ.filter fun r => n ≤ r.val
def done (n : ℕ) : Finset (Fin 8) := Finset.univ.filter fun r => r.val < n

theorem todo_zero : todo 0 = Finset.univ := by decide
theorem todo_eight : todo 8 = ∅ := by decide
theorem done_zero : done 0 = ∅ := by decide
theorem done_eight : done 8 = Finset.univ := by decide
theorem todo_eq (r : Fin 8) : todo r.val = insert r (todo (r.val + 1)) := by revert r; decide
theorem done_eq (r : Fin 8) : done (r.val + 1) = insert r (done r.val) := by revert r; decide
theorem not_mem_todo (r : Fin 8) : r ∉ todo (r.val + 1) := by revert r; decide
theorem not_mem_done (r : Fin 8) : r ∉ done r.val := by revert r; decide

/-- The credits a device still owes its neighbours' receive cells: across the first axis (`k = 1`, `n = nx c`) or the
    second (`k = 3`, `n = ny c`), for the chunks `S`. -/
def owe (n : Dev nD) (k : Fin 4) (S : Finset (Fin 8)) : CellTallies nD τ sig Unit := ∑ r ∈ S, tallyAt (dCell n k r) () N

theorem owe_step (n : Dev nD) (k : Fin 4) (r : Fin 8) :
    owe n k (todo r.val) = owe n k (todo (r.val + 1)) + tallyAt (dCell n k r) () N := by
  unfold owe; rw [todo_eq, Finset.sum_insert (not_mem_todo r), add_comm]
theorem owe_nil (n : Dev nD) (k : Fin 4) : owe n k (todo 8) = 0 := by unfold owe; rw [todo_eight, Finset.sum_empty]

theorem lvS_one (r : Fin 8) : lvS (osem (1, r)) = 2 := by revert r; decide
theorem lvS_zero (r : Fin 8) : lvS (osem (0, r)) ≤ 3 := by revert r; decide
theorem lvS_two (r : Fin 8) : lvS (osem (2, r)) ≤ 3 := by revert r; decide
theorem lvS_three (r : Fin 8) : lvS (osem (3, r)) = 3 := by revert r; decide

theorem above_owe_x (n : Dev nD) (S : Finset (Fin 8)) : Above 1 (owe n 1 S) :=
  Above.sum _ _ fun r _ => Above.tallyAt n (some (1, r)) N (by show 1 < lvS (osem (1, r)); rw [lvS_one]; decide)
theorem above_owe_y (n : Dev nD) (S : Finset (Fin 8)) : Above 2 (owe n 3 S) :=
  Above.sum _ _ fun r _ => Above.tallyAt n (some (3, r)) N (by show 2 < lvS (osem (3, r)); rw [lvS_three]; decide)

/-- What device `c` owes once past its barrier, and before its second and its first signal. -/
def O₂ (c : Dev nD) : CellTallies nD τ sig Unit := owe (ny c) 3 Finset.univ + owe (nx c) 1 Finset.univ
def O₁ (c : Dev nD) : CellTallies nD τ sig Unit := O₂ c + tallyAt (barCell (ny c)) () 1
def O₀ (c : Dev nD) : CellTallies nD τ sig Unit := O₁ c + tallyAt (barCell (nx c)) () 1

theorem above_O₂ (c : Dev nD) : Above 1 (O₂ c) := ((above_owe_y _ _).mono (by decide)).add (above_owe_x _ _)
theorem above_O₀ (c : Dev nD) : Above 0 (O₀ c) :=
  (((above_O₂ c).mono (by decide)).add (Above.tallyAt _ none 1 (by decide))).add (Above.tallyAt _ none 1 (by decide))

end Cert.KernelIdealRun

end
-- ==== Proof.KernelIdealRules.lean ====
/-
The rules the body is run by: loading and storing one chunk of a buffer, sending one chunk to a neighbour, and waiting
for one transfer's credit.
-/
module

public import proofs.«01_k».proof.Proof.KernelIdealSched

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The kernel's programs on a TensorCore, and running one on device `c`. -/
abbrev KProg (F : FTy → Type) [FloatOps F] : Type → Type 1 := Prog (TpuEff nD τ sig (Elt F) Λ₀ .tc)
abbrev run (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

variable (m : (ℓ : Loc nD τ sig) → Buf (Elt F) ℓ)

/-! ## What every device knows: the cells' invariants and the levels -/

/-- Every cell's invariant, under the names `K`, and that every cell has reached its round. -/
def records (K : Dev nD × Cid → ℕ) : sProp 𝕄 :=
  iprop((bigSep Finset.univ fun ck : Dev nD × Cid => cellInv ER (Rd m) (K ck) (kcell ck))
    ∗ bigSep Finset.univ fun ck : Dev nD × Cid => reached ER (kcell ck) 0)
/-- Those and the levels. -/
def env (K : Dev nD × Cid → ℕ) : sProp 𝕄 := iprop(records m K ∗ levAts L lv)

instance records_persistent (K : Dev nD × Cid → ℕ) : BI.Persistent (records m K) := by unfold records; infer_instance
instance env_persistent (K : Dev nD × Cid → ℕ) : BI.Persistent (env m K) := by unfold env; infer_instance

theorem env_inv (K : Dev nD × Cid → ℕ) (ck : Dev nD × Cid) : env m K ⊢ cellInv ER (Rd m) (K ck) (kcell ck) := by
  have h : (bigSep Finset.univ fun ck : Dev nD × Cid => (cellInv ER (Rd m) (K ck) (kcell ck) : sProp 𝕄)) ⊢ cellInv ER (Rd m) (K ck) (kcell ck) :=
    bigSep_elim (Finset.mem_univ ck)
  unfold env records
  iintro ⟨⟨HI, -⟩, -⟩
  iapply h; iexact HI
theorem env_reached (K : Dev nD × Cid → ℕ) (ck : Dev nD × Cid) : env m K ⊢ reached ER (kcell ck) 0 := by
  have h : (bigSep Finset.univ fun ck : Dev nD × Cid => (reached ER (kcell ck) 0 : sProp 𝕄)) ⊢ reached ER (kcell ck) 0 :=
    bigSep_elim (Finset.mem_univ ck)
  unfold env records
  iintro ⟨⟨-, HR⟩, -⟩
  iapply h; iexact HR
theorem env_lev (K : Dev nD × Cid → ℕ) : env m K ⊢ levAts L lv := by
  unfold env
  iintro ⟨-, H⟩
  iexact H

/-- What device `c` owes, whatever it has waited on so far. -/
def owing (c : Dev nD) (O : CellTallies nD τ sig Unit) : sProp 𝕄 := iprop(∃ W, owes (c : Thread nD τ) O W)

variable (K : Dev nD × Cid → ℕ)

/-! ## Loads and stores -/

/-- A load of a rectangle owned at `X` returns `X`. -/
theorem load_slice (c : Dev nD) {s : Shape} {e : EltTy} (M : Memref sig .tc .vmem s e) (r : Rect s) (hr : ∀ a, r.stride a = 1)
    (X : r.shape.Idx → Elt F e) {hl : M.view.LoadsAt r.toLoadRect}
    {k : (r.shape.Idx → Elt F e) → Prog (TpuEff nD τ sig (Elt F) Λ₀ .tc) PUnit} {Q : PUnit → sProp 𝕄} :
    (owns (c : Thread nD τ) (M.slice r hr) fullShare X : sProp 𝕄)
      ⊢ iprop((owns (c : Thread nD τ) (M.slice r hr) fullShare X -∗ run c (k X) Q) -∗ run c (.op (.load M r.toLoadRect hl) k) Q) := by
  unfold owns
  iintro ⟨%f, %hf, H⟩ Hk
  subst hf
  iapply (wp_load_rect 𝒱₀ (c : Thread nD τ) none Set.univ (m := M) (r := r) (S := (M.slice r hr).view.set) (f := f) (Finset.Subset.refl _)) $$ H
  iintro H
  iapply Hk
  iexists f
  isplitr; · ipureintro; rfl
  iexact H

/-- A store to a rectangle owned leaves it owned at what was stored. -/
theorem store_slice (c : Dev nD) {s : Shape} {e : EltTy} (M : Memref sig .tc .vmem s e) (r : Rect s) (hr : ∀ a, r.stride a = 1)
    (X w : r.shape.Idx → Elt F e) {hx : (M.access r).Stores Finset.univ} {hm : (Finset.univ : Finset r.shape.Idx) = Finset.univ ∨ ∀ a, r.stride a = 1}
    {k : PUnit → Prog (TpuEff nD τ sig (Elt F) Λ₀ .tc) PUnit} {Q : PUnit → sProp 𝕄} :
    (owns (c : Thread nD τ) (M.slice r hr) fullShare X : sProp 𝕄)
      ⊢ iprop((owns (c : Thread nD τ) (M.slice r hr) fullShare w -∗ run c (k ⟨⟩) Q) -∗ run c (.op (.store M r w Finset.univ hx hm) k) Q) := by
  unfold owns
  iintro ⟨%f, %hf, H⟩ Hk
  iapply (wp_store 𝒱₀ (c : Thread nD τ) none Set.univ (m := M) (r := r) (Mk := Finset.univ) (S := (M.slice r hr).view.set) (f := f)
    (Finset.Subset.refl _)) $$ H
  iintro H
  iapply Hk
  iexists (M.access r).write (Elt F) f w Finset.univ
  isplitr; · ipureintro; exact View.read_write_univ (v := M.access r) _ _
  iexact H

/-! ## Transfers and waits -/

/-- Sending `src`, owned at `X`, to neighbour `n`'s `dst`, owned at anything, as the transfer of chunk `r`: the credit of
    the send, to wait for it with, and one receive's credit less to owe. -/
theorem send (c n : Dev nD) (ka kb : Fin 4) (r : Fin 8) (src dst : Memref sig .tc .vmem S64x512 .bf16)
    (hN : dst.view.dmaCredit = N) (X Y : S64x512.Idx → Elt F .bf16)
    (h₁ : (owns (c : Thread nD τ) src fullShare X : sProp 𝕄) ⊢ dmaPay m c ka.val r)
    (h₂ : (owns (n : Thread nD τ) dst fullShare X : sProp 𝕄) ⊢ dmaPay m n kb.val r) (O : CellTallies nD τ sig Unit)
    {hsc : (dst : Memref sig (Dev.tc n : Thread nD τ).2.kind .vmem S64x512 .bf16).view.ref.isScScratch = false}
    {hsrc : src.view.WordExact} {hdst : dst.view.WordExact}
    {hsem : DmaTarget.Typed .vmem (.dma (dsem kb r)) (.remote (Dev.tc n : Thread nD τ) (dst : Memref sig (Dev.tc n : Thread nD τ).2.kind .vmem S64x512 .bf16) (.dma (dsem ka r)) hsc)}
    {k : PUnit → Prog (TpuEff nD τ sig (Elt F) Λ₀ .tc) PUnit} {Q : PUnit → sProp 𝕄} :
    iprop(env m K ∗ owns (c : Thread nD τ) src fullShare X ∗ owns (n : Thread nD τ) dst fullShare Y
        ∗ owing c (O + tallyAt (dCell n kb r) () N) ∗ dutyTok ER (dCell c ka r) 0 false ∗ dutyTok ER (dCell n kb r) 0 false)
      ⊢ iprop(((cred (tallyAt (dCell c ka r) () N) ∗ owing c O) -∗ run c (k ⟨⟩) Q)
          -∗ run c (.op (.enqueueDma src (.remote (Dev.tc n : Thread nD τ) dst (.dma (dsem ka r)) hsc)
              (.dma (dsem kb r)) hsrc hdst hsem) k) Q) := by
  have p₁ (fs : Buf (Elt F) (src.view.loc (c : Thread nD τ))) (hfs : src.view.read (Elt F) fs = X) :
      (src.view.loc (c : Thread nD τ) ↦[src.view.set]{fullShare} fs : sProp 𝕄) ⊢ (Rd (F := F) m).payload (dCell c ka r) 0 false := by
    rw [payload_dma]
    refine BIBase.Entails.trans ?_ h₁
    subst hfs
    exact owns_intro (c : Thread nD τ) src fullShare fs
  have p₂ (fs : Buf (Elt F) (src.view.loc (c : Thread nD τ))) (fd : Buf (Elt F) (dst.view.loc (n : Thread nD τ))) (hfs : src.view.read (Elt F) fs = X) :
      (dst.view.loc (n : Thread nD τ) ↦[dst.view.set]{fullShare} (dst.view.write (Elt F) fd (src.view.read (Elt F) fs) Finset.univ) : sProp 𝕄)
        ⊢ (Rd (F := F) m).payload (dCell n kb r) 0 false := by
    rw [payload_dma]
    refine BIBase.Entails.trans ?_ h₂
    have h := owns_intro (Ix := Unit) (Name := ℕ) (U := UU) (Lvl := ℕ) (n : Thread nD τ) dst fullShare (dst.view.write (Elt F) fd (src.view.read (Elt F) fs) Finset.univ)
    rw [View.read_write_univ, hfs] at h
    rw [hfs]; exact h
  unfold owing
  iintro ⟨#He, Hs, Hd, ⟨%W, HO⟩, Ht₁, Ht₂⟩ Hk
  unfold owns
  icases Hs with ⟨%fs, %hfs, Hs⟩
  icases Hd with ⟨%fd, %hfd, Hd⟩
  iapply (Rounds.wp_send_pointsTo 𝒱₀ ER (Rd m) (c : Thread nD τ) none (κ₁ := K (c, some (ka, r))) (κ₂ := K (n, some (kb, r)))
    (c' := (n : Thread nD τ)) (src := src) (dst := dst) (sS := .dma (dsem ka r)) (sem := .dma (dsem kb r))
    (r₁ := 0) (r₂ := 0) (d₁ := false) (d₂ := false) (fs := fs) (fd := fd) (q := fullShare)
    ((duties_dma m c ka r).symm ▸ Finset.mem_singleton_self _) ((duties_dma m n kb r).symm ▸ Finset.mem_singleton_self _)
    () () N hN (amount_dma m c ka r false) (amount_dma m n kb r false) O rfl (W := W) (p₁ fs hfs) (p₂ fs fd hfs)) $$ [Hs Hd HO Ht₁ Ht₂]
  · isplitr; · iapply (env_inv m K (c, some (ka, r))); iexact He
    isplitr; · iapply (env_inv m K (n, some (kb, r))); iexact He
    isplitl [Hs]; · iexact Hs
    isplitl [Hd]; · iexact Hd
    isplitl [HO]; · iexact HO
    isplitl [Ht₁]; · iexact Ht₁
    isplitr; · iapply (env_reached m K (c, some (ka, r))); iexact He
    isplitl [Ht₂]; · iexact Ht₂
    iapply (env_reached m K (n, some (kb, r))); iexact He
  iintro ⟨Hc, HO⟩
  iapply Hk
  isplitl [Hc]; · iexact Hc
  iexists W; iexact HO

/-- Waiting for one transfer's credit, owing only cells of higher level: what the transfer hands over, and the cell's
    round over. -/
theorem wait (c : Dev nD) (ka : Fin 4) (r : Fin 8) {q : DmaSem sig} (hq : q = dsem ka r) (n : ℕ) (hl : lvS (osem (ka, r)) ≤ n)
    (O : CellTallies nD τ sig Unit) (hO : Above n O)
    {src dst : Memref sig .tc .vmem S64x512 .bf16} (hN : dst.view.dmaCredit = N) {hsrc : src.view.WordExact} {hdst : dst.view.WordExact}
    {k : PUnit → Prog (TpuEff nD τ sig (Elt F) Λ₀ .tc) PUnit} {Q : PUnit → sProp 𝕄} :
    iprop(env m K ∗ cred (tallyAt (dCell c ka r) () N) ∗ owing c O ∗ atPos ER (dCell c ka r) 0 ∅ 0)
      ⊢ iprop(((owing c O ∗ atPos ER (dCell c ka r) 1 ∅ 0 ∗ dmaPay m c ka.val r) -∗ run c (k ⟨⟩) Q)
          -∗ run c (.op (.waitDma2 q src dst hsrc hdst) k) Q) := by
  subst hq
  unfold owing
  iintro ⟨#He, Hc, ⟨%W, HO⟩, Hat⟩ Hk
  iapply (Rounds.wp_wait_rest_token 𝒱₀ ER (Rd m) (c : Thread nD τ) none (κ := K (c, some (ka, r)))
      (wpE_waitDma2_eq 𝒱₀ (c : Thread nD τ) none Set.univ) (Set.mem_univ _) (k' := dst.view.dmaCredit) () (O := O) (W := W) (R := 0) (m := 0) (T := ∅)
      (by rw [show ((c : Thread nD τ), SemLoc.dma (dsem ka r)) = dCell c ka r from rfl, expect_dma, Nat.zero_add, hN])) $$ [Hc HO Hat]
  · rw [hN]
    isplitr; · iapply (env_inv m K (c, some (ka, r))); iexact He
    isplitl [Hc]; · iexact Hc
    isplitl [HO]; · iexact HO
    isplitr
    · iapply (mayWait (F := F) c (.dma (dsem ka r)) n hl hO); iapply (env_lev m K); iexact He
    iexact Hat
  iintro ⟨HO, Hat, -, Hpay⟩
  iapply Hk
  isplitl [HO]; · iexists _; iexact HO
  isplitl [Hat]; · iexact Hat
  iapply (Entails.of_eq (rest_dma m c ka r)); iexact Hpay

end Cert.KernelIdealRun

end
-- ==== Proof.KernelIdealSteps.lean ====
/-
The body's three loops, one lemma per chunk step of each: sending a chunk across the first axis, summing a chunk received
there and sending the sum across the second axis, and storing a chunk received there.
-/
module

public import proofs.«01_k».proof.Proof.KernelIdealRules

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cid → ℕ)

/-- Device `c`'s staged block of `x`. -/
def xPts (c : Dev nD) : sProp 𝕄 := ((c : Thread nD τ).loc cc0_stg0_0) ↦{fullShare} xstg m c

/-- Chunk `t` of device `c`'s result, holding `X`; holding anything. -/
def oHas (c : Dev nD) (t : Bool × Fin 8) (X : S64x512.Idx → Elt F .f32) : sProp 𝕄 := owns (c : Thread nD τ) (oChunk c t) fullShare X
def oAny (c : Dev nD) (t : Bool × Fin 8) : sProp 𝕄 := iprop(∃ X, oHas c t X)

/-! ## What each step of each loop takes and gives -/

def preX (c : Dev nD) (r : Fin 8) : sProp 𝕄 :=
  iprop(any c xsM r ∗ any (nx c) xrM r ∗ dutyTok ER (dCell c 0 r) 0 false ∗ dutyTok ER (dCell (nx c) 1 r) 0 false)
def postX (c : Dev nD) (r : Fin 8) : sProp 𝕄 := cred (tallyAt (dCell c 0 r) () N)

def preY (c : Dev nD) (r : Fin 8) : sProp 𝕄 :=
  iprop(cred (tallyAt (dCell c 1 r) () N) ∗ atPos ER (dCell c 1 r) 0 ∅ 0 ∗ oAny c (false, r)
    ∗ any c ysM r ∗ any (ny c) yrM r ∗ dutyTok ER (dCell c 2 r) 0 false ∗ dutyTok ER (dCell (ny c) 3 r) 0 false)
def postY (c : Dev nD) (r : Fin 8) : sProp 𝕄 :=
  iprop(atPos ER (dCell c 1 r) 1 ∅ 0 ∗ has c xrM r (XS m (nx c) r) ∗ oHas c (false, r) (SUM m c r) ∗ cred (tallyAt (dCell c 2 r) () N))

def preZ (c : Dev nD) (r : Fin 8) : sProp 𝕄 :=
  iprop(cred (tallyAt (dCell c 3 r) () N) ∗ atPos ER (dCell c 3 r) 0 ∅ 0 ∗ oAny c (true, r)
    ∗ cred (tallyAt (dCell c 0 r) () N) ∗ atPos ER (dCell c 0 r) 0 ∅ 0
    ∗ cred (tallyAt (dCell c 2 r) () N) ∗ atPos ER (dCell c 2 r) 0 ∅ 0)
def postZ (c : Dev nD) (r : Fin 8) : sProp 𝕄 :=
  iprop(atPos ER (dCell c 3 r) 1 ∅ 0 ∗ has c yrM r (YS m (ny c) r) ∗ oHas c (true, r) (OTH m c r)
    ∗ atPos ER (dCell c 0 r) 1 ∅ 0 ∗ has c xsM r (XS m c r)
    ∗ atPos ER (dCell c 2 r) 1 ∅ 0 ∗ has c ysM r (YS m c r))

/-- A loop at its `n`-th chunk: the chunks from `n` on still to do, those before it done. -/
def loop (n : ℕ) (pre post : Fin 8 → sProp 𝕄) : sProp 𝕄 := iprop(bigSep (todo n) pre ∗ bigSep (done n) post)

theorem loop_take (r : Fin 8) (pre post : Fin 8 → sProp 𝕄) :
    loop r.val pre post ⊢ iprop(pre r ∗ (post r -∗ loop (r.val + 1) pre post)) := by
  unfold loop
  rw [todo_eq r, done_eq r, bigSep_insert (not_mem_todo r), bigSep_insert (not_mem_done r)]
  refine (show iprop((pre r ∗ bigSep (todo (r.val + 1)) pre) ∗ bigSep (done r.val) post)
    ⊢ iprop(pre r ∗ (post r -∗ (bigSep (todo (r.val + 1)) pre ∗ (post r ∗ bigSep (done r.val) post)))) from ?_)
  iintro ⟨⟨Hp, Ht⟩, Hd⟩
  isplitl [Hp]; · iexact Hp
  iintro Hq
  isplitl [Ht]; · iexact Ht
  isplitl [Hq] <;> iassumption
theorem loop_start (pre post : Fin 8 → sProp 𝕄) : bigSep Finset.univ pre ⊢ loop 0 pre post := by
  unfold loop; rw [todo_zero, done_zero, bigSep_empty]
  iintro H
  isplitl [H]; · iexact H
  iempintro
theorem loop_end (pre post : Fin 8 → sProp 𝕄) : loop 8 pre post ⊢ bigSep Finset.univ post := by
  unfold loop; rw [todo_eight, done_eight, bigSep_empty]
  iintro ⟨-, H⟩
  iexact H

/-- The three loops' states. -/
def stX (c : Dev nD) (n : ℕ) : sProp 𝕄 :=
  iprop(xPts m c ∗ owing c (owe (ny c) 3 Finset.univ + owe (nx c) 1 (todo n)) ∗ loop n (preX c) (postX c))
def stY (c : Dev nD) (n : ℕ) : sProp 𝕄 :=
  iprop(xPts m c ∗ owing c (owe (ny c) 3 (todo n)) ∗ loop n (preY c) (postY m c))
def stZ (c : Dev nD) (n : ℕ) : sProp 𝕄 := iprop(owing c 0 ∗ loop n (preZ c) (postZ m c))

/-- Loading chunk `r` of the half device `c` sums. -/
theorem load_x (c : Dev nD) (r : Fin 8) {hl : (xM : Memref sig .tc .vmem S1024x512 .f32).view.LoadsAt (oR c (false, r)).toLoadRect}
    {k : (S64x512.Idx → Elt F .f32) → Prog (TpuEff nD τ sig (Elt F) Λ₀ .tc) PUnit} {Q : PUnit → sProp 𝕄} :
    (xPts m c : sProp 𝕄) ⊢ iprop((xPts m c -∗ run c (k (xv m c r)) Q) -∗ run c (.op (.load xM (oR c (false, r)).toLoadRect hl) k) Q) :=
  wp_load_rect 𝒱₀ (c : Thread nD τ) none Set.univ (m := xM) (r := oR c (false, r)) (S := Finset.univ) (f := xstg m c) (Finset.subset_univ _)

/-- A step of the first loop: the chunk loaded, narrowed, and sent to `nx c`. -/
theorem stepX (c n : Dev nD) (hn : n = nx c) (r : Fin 8) {o ox : Fin 2 → ℕ} (ho : o = ![64 * r.val, 0]) (hox : ox = ![orow c false r, 0])
    {hin : ∀ a, o a + S64x512.size a ≤ S512x512.size a} {hix : ∀ a, ox a + S64x512.size a ≤ S1024x512.size a}
    {sS sR : DmaSem sig} (hS : sS = dsem 0 r) (hR : sR = dsem 1 r)
    {p : Vec F S64x512 .f32 → FVec F S64x512 .bf16} (hp : p = k0_pay1)
    {hl₁ : (xM : Memref sig .tc .vmem S1024x512 .f32).view.LoadsAt (Rect.unit (s := S1024x512) ox S64x512.size hix).toLoadRect}
    {hl₂ : (xsM : Memref sig .tc .vmem S512x512 .bf16).view.LoadsAt (Rect.unit (s := S512x512) o S64x512.size hin).toLoadRect}
    {hx : ((xsM : Memref sig .tc .vmem S512x512 .bf16).access (Rect.unit (s := S512x512) o S64x512.size hin)).Stores Finset.univ}
    {hm : (Finset.univ : Finset S64x512.Idx) = Finset.univ ∨ ∀ a, (Rect.unit (s := S512x512) o S64x512.size hin).stride a = 1}
    {hsc : (xrM.slice (Rect.unit (s := S512x512) o S64x512.size hin) (fun _ => rfl) : Memref sig (Dev.tc n : Thread nD τ).2.kind .vmem S64x512 .bf16).view.ref.isScScratch = false}
    {hsrc : (xsM.slice (Rect.unit (s := S512x512) o S64x512.size hin) (fun _ => rfl)).view.WordExact}
    {hdst : (xrM.slice (Rect.unit (s := S512x512) o S64x512.size hin) (fun _ => rfl)).view.WordExact}
    {hsem : DmaTarget.Typed .vmem (.dma sR) (.remote (Dev.tc n : Thread nD τ) (xrM.slice (Rect.unit (s := S512x512) o S64x512.size hin) (fun _ => rfl) : Memref sig (Dev.tc n : Thread nD τ).2.kind .vmem S64x512 .bf16) (.dma sS) hsc)}
    {k : PUnit → Prog (TpuEff nD τ sig (Elt F) Λ₀ .tc) PUnit} {Q : PUnit → sProp 𝕄} :
    env m K
      ⊢ iprop(stX m c r.val -∗ (stX m c (r.val + 1) -∗ run c (k ⟨⟩) Q) -∗ run c
          (.op (.load xM (Rect.unit (s := S1024x512) ox S64x512.size hix).toLoadRect hl₁) fun v =>
            .op (.load xsM (Rect.unit (s := S512x512) o S64x512.size hin).toLoadRect hl₂) fun _ =>
            .op (.store xsM (Rect.unit (s := S512x512) o S64x512.size hin) (p v) Finset.univ hx hm) fun _ =>
            .op (.enqueueDma (xsM.slice (Rect.unit (s := S512x512) o S64x512.size hin) (fun _ => rfl))
              (.remote (Dev.tc n : Thread nD τ) (xrM.slice (Rect.unit (s := S512x512) o S64x512.size hin) (fun _ => rfl)) (.dma sS) hsc)
              (.dma sR) hsrc hdst hsem) k) Q) := by
  subst hn ho hox hS hR hp
  unfold stX
  iintro #He ⟨Hx, HO, Hl⟩ Hk
  ihave Hl := (loop_take r (preX (F := F) c) (postX c)) $$ Hl
  unfold preX any has
  icases Hl with ⟨⟨⟨%X, Hs⟩, ⟨%Y, Hd⟩, Ht₁, Ht₂⟩, Hback⟩
  iapply (load_x m c r) $$ Hx; iintro Hx
  iapply (load_slice c xsM (chR r) (fun _ => rfl) X) $$ Hs; iintro Hs
  iapply (store_slice c xsM (chR r) (fun _ => rfl) X) $$ Hs; iintro Hs
  iapply (send m K c (nx c) 0 1 r (chunk xsM r) (chunk xrM r) rfl (XS m c r) Y (BI.Entails.refl _)
    (Entails.of_eq (by show _ = has (nx c) xrM r (XS m (nx (nx c)) r); rw [nx_nx]; rfl))
    (owe (ny c) 3 Finset.univ + owe (nx c) 1 (todo (r.val + 1)))) $$ [Hs Hd HO Ht₁ Ht₂]
  · isplitr; · iexact He
    isplitl [Hs]; · iexact Hs
    isplitl [Hd]; · iexact Hd
    isplitl [HO]; · rw [add_assoc, ← owe_step]; iexact HO
    isplitl [Ht₁] <;> iassumption
  iintro ⟨Hc, HO⟩
  iapply Hk
  isplitl [Hx]; · iexact Hx
  isplitl [HO]; · iexact HO
  iapply Hback; unfold postX; iexact Hc

/-- The rectangle of a chunk of a 512-row buffer, and of a 1024-row one, at an offset the program computes. -/
abbrev rI (o : Fin 2 → ℕ) (h : ∀ a, o a + S64x512.size a ≤ S512x512.size a) : Rect S512x512 := Rect.unit (s := S512x512) o S64x512.size h
abbrev rO (o : Fin 2 → ℕ) (h : ∀ a, o a + S64x512.size a ≤ S1024x512.size a) : Rect S1024x512 := Rect.unit (s := S1024x512) o S64x512.size h

/-- A step of the second loop: the chunk received across the first axis is added to the device's own, the sum stored in the
    result and sent to `ny c`. -/
theorem stepY (c n : Dev nD) (hn : n = ny c) (r : Fin 8) {o ox : Fin 2 → ℕ} (ho : o = ![64 * r.val, 0]) (hox : ox = ![orow c false r, 0])
    {hin : ∀ a, o a + S64x512.size a ≤ S512x512.size a} {hix : ∀ a, ox a + S64x512.size a ≤ S1024x512.size a}
    {sW sS sR : DmaSem sig} (hW : sW = dsem 1 r) (hS : sS = dsem 2 r) (hR : sR = dsem 3 r)
    {p : Vec F S64x512 .f32 → Vec F S64x512 .bf16 → FVec F S64x512 .f32} (hp : p = k0_pay10)
    {q : Vec F S64x512 .f32 → Vec F S64x512 .bf16 → FVec F S64x512 .bf16} (hq : q = k0_pay11)
    {hwa : (xsM.slice (rI o hin) (fun _ => rfl)).view.WordExact}
    {hwb : (xrM.slice (rI o hin) (fun _ => rfl)).view.WordExact}
    {hl₁ : (xM : Memref sig .tc .vmem S1024x512 .f32).view.LoadsAt (rO ox hix).toLoadRect}
    {hl₂ : (xrM : Memref sig .tc .vmem S512x512 .bf16).view.LoadsAt (rI o hin).toLoadRect}
    {hl₃ : (oM : Memref sig .tc .vmem S1024x512 .f32).view.LoadsAt (rO ox hix).toLoadRect}
    {hx₃ : ((oM : Memref sig .tc .vmem S1024x512 .f32).access (rO ox hix)).Stores Finset.univ}
    {hm₃ : (Finset.univ : Finset S64x512.Idx) = Finset.univ ∨ ∀ a, (rO ox hix).stride a = 1}
    {hl₄ : (ysM : Memref sig .tc .vmem S512x512 .bf16).view.LoadsAt (rI o hin).toLoadRect}
    {hx₄ : ((ysM : Memref sig .tc .vmem S512x512 .bf16).access (rI o hin)).Stores Finset.univ}
    {hm₄ : (Finset.univ : Finset S64x512.Idx) = Finset.univ ∨ ∀ a, (rI o hin).stride a = 1}
    {hsc : (yrM.slice (rI o hin) (fun _ => rfl) : Memref sig (Dev.tc n : Thread nD τ).2.kind .vmem S64x512 .bf16).view.ref.isScScratch = false}
    {hsrc : (ysM.slice (rI o hin) (fun _ => rfl)).view.WordExact}
    {hdst : (yrM.slice (rI o hin) (fun _ => rfl)).view.WordExact}
    {hsem : DmaTarget.Typed .vmem (.dma sR) (.remote (Dev.tc n : Thread nD τ) (yrM.slice (rI o hin) (fun _ => rfl) : Memref sig (Dev.tc n : Thread nD τ).2.kind .vmem S64x512 .bf16) (.dma sS) hsc)}
    {k : PUnit → Prog (TpuEff nD τ sig (Elt F) Λ₀ .tc) PUnit} {Q : PUnit → sProp 𝕄} :
    env m K
      ⊢ iprop(stY m c r.val -∗ (stY m c (r.val + 1) -∗ run c (k ⟨⟩) Q) -∗ run c
          (.op (.waitDma2 sW (xsM.slice (rI o hin) (fun _ => rfl)) (xrM.slice (rI o hin) (fun _ => rfl)) hwa hwb) fun _ =>
            .op (.load xM (rO ox hix).toLoadRect hl₁) fun v =>
            .op (.load xrM (rI o hin).toLoadRect hl₂) fun w =>
            .op (.load oM (rO ox hix).toLoadRect hl₃) fun _ =>
            .op (.store oM (rO ox hix) (p v w) Finset.univ hx₃ hm₃) fun _ =>
            .op (.load ysM (rI o hin).toLoadRect hl₄) fun _ =>
            .op (.store ysM (rI o hin) (q v w) Finset.univ hx₄ hm₄) fun _ =>
            .op (.enqueueDma (ysM.slice (rI o hin) (fun _ => rfl))
              (.remote (Dev.tc n : Thread nD τ) (yrM.slice (rI o hin) (fun _ => rfl)) (.dma sS) hsc)
              (.dma sR) hsrc hdst hsem) k) Q) := by
  subst hn ho hox hS hR hp hq
  unfold stY
  iintro #He ⟨Hx, HO, Hl⟩ Hk
  ihave Hl := (loop_take r (preY (F := F) c) (postY m c)) $$ Hl
  unfold preY any oAny oHas
  icases Hl with ⟨⟨Hcr, Hat, ⟨%Z, Ho⟩, ⟨%X, Hs⟩, ⟨%Y, Hd⟩, Ht₁, Ht₂⟩, Hback⟩
  iapply (wait m K c 1 r hW 2 (le_of_eq (lvS_one r)) (owe (ny c) 3 (todo r.val)) (above_owe_y _ _)
    (src := chunk xsM r) (dst := chunk xrM r) rfl (hsrc := hwa) (hdst := hwb)) $$ [Hcr HO Hat]
  · isplitr; · iexact He
    isplitl [Hcr]; · iexact Hcr
    isplitl [HO] <;> iassumption
  iintro ⟨HO, Hat, Hr⟩
  ihave Hr := (show (dmaPay m c (1 : Fin 4).val r : sProp 𝕄) ⊢ has c xrM r (XS m (nx c) r) from BI.Entails.refl _) $$ Hr
  unfold has
  iapply (load_x m c r) $$ Hx; iintro Hx
  iapply (load_slice c xrM (chR r) (fun _ => rfl) (XS m (nx c) r)) $$ Hr; iintro Hr
  iapply (load_slice c oM (oR c (false, r)) (fun _ => rfl) Z) $$ Ho; iintro Ho
  iapply (store_slice c oM (oR c (false, r)) (fun _ => rfl) Z) $$ Ho; iintro Ho
  iapply (load_slice c ysM (chR r) (fun _ => rfl) X) $$ Hs; iintro Hs
  iapply (store_slice c ysM (chR r) (fun _ => rfl) X) $$ Hs; iintro Hs
  iapply (send m K c (ny c) 2 3 r (chunk ysM r) (chunk yrM r) rfl (YS m c r) Y (BI.Entails.refl _)
    (Entails.of_eq (by show _ = has (ny c) yrM r (YS m (ny (ny c)) r); rw [ny_ny]; rfl))
    (owe (ny c) 3 (todo (r.val + 1)))) $$ [Hs Hd HO Ht₁ Ht₂]
  · isplitr; · iexact He
    isplitl [Hs]; · iexact Hs
    isplitl [Hd]; · iexact Hd
    isplitl [HO]; · rw [← owe_step]; iexact HO
    isplitl [Ht₁] <;> iassumption
  iintro ⟨Hc, HO⟩
  iapply Hk
  isplitl [Hx]; · iexact Hx
  isplitl [HO]; · iexact HO
  iapply Hback; unfold postY has oHas
  isplitl [Hat]; · iexact Hat
  isplitl [Hr]; · iexact Hr
  isplitl [Ho]; · iexact Ho
  iexact Hc

/-- A step of the last loop: the chunk received across the second axis is widened and stored in the result, and the chunk's
    two sends are waited for. -/
theorem stepZ (c : Dev nD) (r : Fin 8) {o ox : Fin 2 → ℕ} (ho : o = ![64 * r.val, 0]) (hox : ox = ![orow c true r, 0])
    {hin : ∀ a, o a + S64x512.size a ≤ S512x512.size a} {hix : ∀ a, ox a + S64x512.size a ≤ S1024x512.size a}
    {sA sB sC : DmaSem sig} (hA : sA = dsem 3 r) (hB : sB = dsem 0 r) (hC : sC = dsem 2 r)
    {p : Vec F S64x512 .bf16 → FVec F S64x512 .f32} (hp : p = k0_pay26)
    {hxs : (xsM.slice (rI o hin) (fun _ => rfl)).view.WordExact}
    {hxr : (xrM.slice (rI o hin) (fun _ => rfl)).view.WordExact}
    {hys : (ysM.slice (rI o hin) (fun _ => rfl)).view.WordExact}
    {hyr : (yrM.slice (rI o hin) (fun _ => rfl)).view.WordExact}
    {hl₁ : (yrM : Memref sig .tc .vmem S512x512 .bf16).view.LoadsAt (rI o hin).toLoadRect}
    {hl₂ : (oM : Memref sig .tc .vmem S1024x512 .f32).view.LoadsAt (rO ox hix).toLoadRect}
    {hx : ((oM : Memref sig .tc .vmem S1024x512 .f32).access (rO ox hix)).Stores Finset.univ}
    {hm : (Finset.univ : Finset S64x512.Idx) = Finset.univ ∨ ∀ a, (rO ox hix).stride a = 1}
    {k : PUnit → Prog (TpuEff nD τ sig (Elt F) Λ₀ .tc) PUnit} {Q : PUnit → sProp 𝕄} :
    env m K
      ⊢ iprop(stZ m c r.val -∗ (stZ m c (r.val + 1) -∗ run c (k ⟨⟩) Q) -∗ run c
          (.op (.waitDma2 sA (ysM.slice (rI o hin) (fun _ => rfl)) (yrM.slice (rI o hin) (fun _ => rfl)) hys hyr) fun _ =>
            .op (.load yrM (rI o hin).toLoadRect hl₁) fun w =>
            .op (.load oM (rO ox hix).toLoadRect hl₂) fun _ =>
            .op (.store oM (rO ox hix) (p w) Finset.univ hx hm) fun _ =>
            .op (.waitDma2 sB (xrM.slice (rI o hin) (fun _ => rfl)) (xsM.slice (rI o hin) (fun _ => rfl)) hxr hxs) fun _ =>
            .op (.waitDma2 sC (yrM.slice (rI o hin) (fun _ => rfl)) (ysM.slice (rI o hin) (fun _ => rfl)) hyr hys) k) Q) := by
  subst ho hox hp
  unfold stZ
  iintro #He ⟨HO, Hl⟩ Hk
  ihave Hl := (loop_take r (preZ (F := F) c) (postZ m c)) $$ Hl
  unfold preZ oAny oHas
  icases Hl with ⟨⟨Hc3, Ha3, ⟨%Z, Ho⟩, Hc0, Ha0, Hc2, Ha2⟩, Hback⟩
  iapply (wait m K c 3 r hA 3 (le_of_eq (lvS_three r)) 0 (Above.zero 3)
    (src := chunk ysM r) (dst := chunk yrM r) rfl (hsrc := hys) (hdst := hyr)) $$ [Hc3 HO Ha3]
  · isplitr; · iexact He
    isplitl [Hc3]; · iexact Hc3
    isplitl [HO] <;> iassumption
  iintro ⟨HO, Ha3, Hr⟩
  ihave Hr := (show (dmaPay m c (3 : Fin 4).val r : sProp 𝕄) ⊢ has c yrM r (YS m (ny c) r) from BI.Entails.refl _) $$ Hr
  unfold has
  iapply (load_slice c yrM (chR r) (fun _ => rfl) (YS m (ny c) r)) $$ Hr; iintro Hr
  iapply (load_slice c oM (oR c (true, r)) (fun _ => rfl) Z) $$ Ho; iintro Ho
  iapply (store_slice c oM (oR c (true, r)) (fun _ => rfl) Z) $$ Ho; iintro Ho
  iapply (wait m K c 0 r hB 3 (lvS_zero r) 0 (Above.zero 3)
    (src := chunk xrM r) (dst := chunk xsM r) rfl (hsrc := hxr) (hdst := hxs)) $$ [Hc0 HO Ha0]
  · isplitr; · iexact He
    isplitl [Hc0]; · iexact Hc0
    isplitl [HO] <;> iassumption
  iintro ⟨HO, Ha0, Hp0⟩
  ihave Hp0 := (show (dmaPay m c (0 : Fin 4).val r : sProp 𝕄) ⊢ owns (c : Thread nD τ) (chunk xsM r) fullShare (XS m c r) from BI.Entails.refl _) $$ Hp0
  iapply (wait m K c 2 r hC 3 (lvS_two r) 0 (Above.zero 3)
    (src := chunk yrM r) (dst := chunk ysM r) rfl (hsrc := hyr) (hdst := hys)) $$ [Hc2 HO Ha2]
  · isplitr; · iexact He
    isplitl [Hc2]; · iexact Hc2
    isplitl [HO] <;> iassumption
  iintro ⟨HO, Ha2, Hp2⟩
  ihave Hp2 := (show (dmaPay m c (2 : Fin 4).val r : sProp 𝕄) ⊢ owns (c : Thread nD τ) (chunk ysM r) fullShare (YS m c r) from BI.Entails.refl _) $$ Hp2
  iapply Hk
  isplitl [HO]; · iexact HO
  iapply Hback; unfold postZ has oHas
  isplitl [Ha3]; · iexact Ha3
  isplitl [Hr]; · iexact Hr
  isplitl [Ho]; · iexact Ho
  isplitl [Ha0]; · iexact Ha0
  isplitl [Hp0]; · iexact Hp0
  isplitl [Ha2]; · iexact Ha2
  iexact Hp2

end Cert.KernelIdealRun

end
-- ==== Proof.KernelIdealChunks.lean ====
/-
What a device's result holds: its sixteen chunks side by side; and the buffers cut into chunks and put together again.
-/
module

public import proofs.«01_k».proof.Proof.KernelIdealSteps
public import Idealize.ShloMosaic.Lib.ValueIdxCore

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Families of rectangles -/

/-- Rectangles are disjoint when a function of an element tells the rectangle it lies in. -/
theorem disjoint_rects {s : Shape} {T : Type} (r : T → Rect s) (f : s.Idx → T) (h : ∀ t j, f ((r t).emb j) = t) :
    ∀ t t', t ≠ t' → Disjoint (r t).set (r t').set := fun t t' htt => by
  refine Finset.disjoint_left.mpr fun i hi hi' => htt ?_
  obtain ⟨j, rfl⟩ := (r t).exists_idx_of_mem hi
  obtain ⟨j', hj'⟩ := (r t').exists_idx_of_mem hi'
  have h₁ := h t j
  have h₂ := h t' j'
  rw [← h₁, ← h₂]
  exact congrArg f hj'.symm

/-- Rectangles cover when each element is some rectangle's. -/
theorem cover_rects {s : Shape} {T : Type} [Fintype T] (r : T → Rect s) (f : s.Idx → T) (g : ∀ i, (r (f i)).shape.Idx)
    (h : ∀ i, (r (f i)).emb (g i) = i) : (Finset.univ : Finset T).biUnion (fun t => (r t).set) = Finset.univ := by
  refine Finset.eq_univ_iff_forall.mpr fun i => Finset.mem_biUnion.mpr ⟨f i, Finset.mem_univ _, ?_⟩
  have h' := (r (f i)).idx_mem (g i)
  rwa [show (r (f i)).idx (g i) = i from h i] at h'

/-! ## The chunks of 512 rows -/

set_option backward.proofsInPublic true in
/-- The chunk an element of a 512-row buffer lies in, and its place there. -/
def chT (i : S512x512.Idx) : Fin 8 := ⟨(i 0).val / 64, by have h : (i 0).val < 512 := (i 0).isLt; omega⟩
set_option backward.proofsInPublic true in
def chJ (i : S512x512.Idx) : S64x512.Idx := ix2 (⟨(i 0).val % 64, Nat.mod_lt _ (by decide)⟩ : Fin 64) (⟨(i 1).val, (i 1).isLt⟩ : Fin 512)

theorem chR_emb0 (r : Fin 8) (j : S64x512.Idx) : ((chR r).emb j 0).val = 64 * r.val + 1 * (j 0).val := rfl
theorem chR_emb1 (r : Fin 8) (j : S64x512.Idx) : ((chR r).emb j 1).val = 0 + 1 * (j 1).val := rfl
theorem chT_emb (r : Fin 8) (j : S64x512.Idx) : chT ((chR r).emb j) = r := Fin.ext (by
  have h : (j 0).val < 64 := (j 0).isLt
  show ((chR r).emb j 0).val / 64 = r.val
  rw [chR_emb0]; omega)
theorem chR_chJ (i : S512x512.Idx) : (chR (chT i)).emb (chJ i) = i := by
  funext a
  fin_cases a
  · refine Fin.ext ((chR_emb0 (chT i) (chJ i)).trans ?_)
    show 64 * ((i 0).val / 64) + 1 * ((i 0).val % 64) = (i 0).val
    omega
  · refine Fin.ext ((chR_emb1 (chT i) (chJ i)).trans ?_)
    show 0 + 1 * (i 1).val = (i 1).val
    omega
theorem chJ_emb (r : Fin 8) (j : S64x512.Idx) : chJ ((chR r).emb j) = j := by
  have h := chR_chJ ((chR r).emb j)
  rw [chT_emb] at h
  exact (chR r).emb.injective h

theorem ch_disj : ∀ t t', t ≠ t' → Disjoint (chR t).set (chR t').set := disjoint_rects chR chT chT_emb
theorem ch_cover : (Finset.univ : Finset (Fin 8)).biUnion (fun t => (chR t).set) = Finset.univ := cover_rects chR chT chJ chR_chJ

/-! ## The chunks of a device's result -/

set_option backward.proofsInPublic true in
/-- The chunk an element of device `c`'s result lies in, and its place there. -/
def outT (c : Dev nD) (i : S1024x512.Idx) : Bool × Fin 8 :=
  (if (i 0).val / 512 = c.val % 2 then false else true, ⟨(i 0).val % 512 / 64, by omega⟩)
set_option backward.proofsInPublic true in
def outJ (i : S1024x512.Idx) : S64x512.Idx := ix2 (⟨(i 0).val % 64, Nat.mod_lt _ (by decide)⟩ : Fin 64) (⟨(i 1).val, (i 1).isLt⟩ : Fin 512)

theorem oR_emb0 (c : Dev nD) (t : Bool × Fin 8) (j : S64x512.Idx) : ((oR c t).emb j 0).val = orow c t.1 t.2 + 1 * (j 0).val := rfl
theorem oR_emb1 (c : Dev nD) (t : Bool × Fin 8) (j : S64x512.Idx) : ((oR c t).emb j 1).val = 0 + 1 * (j 1).val := rfl
theorem outT_emb (c : Dev nD) (t : Bool × Fin 8) (j : S64x512.Idx) : outT c ((oR c t).emb j) = t := by
  obtain ⟨b, r⟩ := t
  have h : (j 0).val < 64 := (j 0).isLt
  have h0 := oR_emb0 c (b, r) j
  unfold outT
  generalize (oR c (b, r)).emb j = i at *
  unfold orow at h0
  cases b <;> dsimp only at h0
  · rw [if_neg (by decide)] at h0
    rw [if_pos (by omega)]
    exact congrArg _ (Fin.ext (by show (i 0).val % 512 / 64 = r.val; omega))
  · rw [if_pos rfl] at h0
    rw [if_neg (by omega)]
    exact congrArg _ (Fin.ext (by show (i 0).val % 512 / 64 = r.val; omega))
theorem oR_outJ (c : Dev nD) (i : S1024x512.Idx) : (oR c (outT c i)).emb (outJ i) = i := by
  funext a
  fin_cases a
  · refine Fin.ext ((oR_emb0 c (outT c i) (outJ i)).trans ?_)
    have h : (i 0).val < 1024 := (i 0).isLt
    show orow c (if (i 0).val / 512 = c.val % 2 then false else true) ⟨(i 0).val % 512 / 64, _⟩ + 1 * ((i 0).val % 64) = (i 0).val
    unfold orow
    split
    · rw [if_neg (by decide)]; dsimp only; omega
    · rw [if_pos rfl]; dsimp only; omega
  · refine Fin.ext ((oR_emb1 c (outT c i) (outJ i)).trans ?_)
    show 0 + 1 * (i 1).val = (i 1).val
    omega
theorem outJ_emb (c : Dev nD) (t : Bool × Fin 8) (j : S64x512.Idx) : outJ ((oR c t).emb j) = j := by
  have h := oR_outJ c ((oR c t).emb j)
  rw [outT_emb] at h
  exact (oR c t).emb.injective h

theorem out_disj (c : Dev nD) : ∀ t t', t ≠ t' → Disjoint (oR c t).set (oR c t').set := disjoint_rects (oR c) (outT c) (outT_emb c)
theorem out_cover (c : Dev nD) : (Finset.univ : Finset (Bool × Fin 8)).biUnion (fun t => (oR c t).set) = Finset.univ :=
  cover_rects (oR c) (outT c) outJ (oR_outJ c)

variable (m : (ℓ : Loc nD τ sig) → Buf (Elt F) ℓ)

/-- Device `c`'s result. -/
def outAt (c : Dev nD) : (cc0_stg1_0 : Ref sig .tc).ty.Contents (Elt F) := fun i : S1024x512.Idx => res m c (outT c i) (outJ i)

theorem outAt_emb (c : Dev nD) (t : Bool × Fin 8) : (fun j => outAt m c ((oR c t).emb j)) = res m c t :=
  funext fun j => by show res m c (outT c _) (outJ _) = _; rw [outT_emb, outJ_emb]

/-! ## Buffers cut and put together -/

/-- The eight chunks of a 512-row buffer put together. -/
def glue (X : Fin 8 → S64x512.Idx → Elt F .bf16) : S512x512.Idx → Elt F .bf16 := fun i => X (chT i) (chJ i)
theorem glue_emb (X : Fin 8 → S64x512.Idx → Elt F .bf16) (r : Fin 8) : (fun j => glue X ((chR r).emb j)) = X r :=
  funext fun j => by show X (chT _) (chJ _) = _; rw [chT_emb, chJ_emb]

theorem has_any (c : Dev nD) (M : Memref sig .tc .vmem S512x512 .bf16) (r : Fin 8) (X : S64x512.Idx → Elt F .bf16) :
    (owns (c : Thread nD τ) (chunk M r) fullShare X : sProp 𝕄) ⊢ iprop(∃ X, owns (c : Thread nD τ) (chunk M r) fullShare X) := by
  iintro H; iexists X; iexact H
theorem oHas_oAny (c : Dev nD) (t : Bool × Fin 8) (X : S64x512.Idx → Elt F .f32) :
    (oHas c t X : sProp 𝕄) ⊢ oAny c t := by
  unfold oAny
  iintro H; iexists X; iexact H
theorem cut_chunks (c : Dev nD) (M : Memref sig .tc .vmem S512x512 .bf16) (X : S512x512.Idx → Elt F .bf16) :
    (owns (c : Thread nD τ) M fullShare X : sProp 𝕄) ⊢ anyAll c M := by
  unfold anyAll any has
  exact (owns_rects (c : Thread nD τ) M fullShare chR (fun _ _ => rfl) ch_disj ch_cover X).trans
    (bigSep_mono fun r _ => has_any c M r _)
theorem join_chunks (c : Dev nD) (M : Memref sig .tc .vmem S512x512 .bf16) (X : Fin 8 → S64x512.Idx → Elt F .bf16) :
    bigSep Finset.univ (fun r => has c M r (X r)) ⊢ (owns (c : Thread nD τ) M fullShare (glue X) : sProp 𝕄) := by
  unfold has
  have h (r : Fin 8) : (owns (c : Thread nD τ) (chunk M r) fullShare (X r) : sProp 𝕄)
      = owns (c : Thread nD τ) (chunk M r) fullShare (fun j => glue X ((chR r).emb j)) := congrArg _ (glue_emb X r).symm
  rw [bigSep_congr fun r _ => h r]
  exact owns_of_rects (c : Thread nD τ) M fullShare chR (fun _ _ => rfl) ch_disj ch_cover (glue X)

theorem bigSep_bool (Φ : Bool → sProp 𝕄) : bigSep Finset.univ Φ = iprop(Φ false ∗ Φ true) :=
  bigSep_univ_eq_bigSepL [false, true] (by decide) (by decide) Φ

/-- The result buffer cut into the chunks of the two halves; -/
theorem cut_out (c : Dev nD) (X : S1024x512.Idx → Elt F .f32) :
    (owns (c : Thread nD τ) oM fullShare X : sProp 𝕄)
      ⊢ iprop((bigSep Finset.univ fun r : Fin 8 => oAny c (false, r)) ∗ bigSep Finset.univ fun r : Fin 8 => oAny c (true, r)) := by
  refine (owns_rects (c : Thread nD τ) oM fullShare (oR c) (fun _ _ => rfl) (out_disj c) (out_cover c) X).trans ?_
  rw [bigSep_univ_prod, bigSep_bool]
  exact BI.sep_mono (bigSep_mono fun r _ => oHas_oAny c (false, r) _) (bigSep_mono fun r _ => oHas_oAny c (true, r) _)
/-- and put together. -/
theorem join_out (c : Dev nD) :
    iprop((bigSep Finset.univ fun r : Fin 8 => oHas c (false, r) (SUM m c r)) ∗ bigSep Finset.univ fun r : Fin 8 => oHas c (true, r) (OTH m c r))
      ⊢ (owns (c : Thread nD τ) oM fullShare (outAt m c) : sProp 𝕄) := by
  refine BIBase.Entails.trans (Entails.of_eq ?_)
    (owns_of_rects (c : Thread nD τ) oM fullShare (oR c) (fun _ _ => rfl) (out_disj c) (out_cover c) (outAt m c))
  rw [bigSep_univ_prod, bigSep_bool]
  unfold oHas
  rw [bigSep_congr fun r _ => congrArg (owns (c : Thread nD τ) (oChunk c (false, r)) fullShare) (outAt_emb m c (false, r)),
    bigSep_congr fun r _ => congrArg (owns (c : Thread nD τ) (oChunk c (true, r)) fullShare) (outAt_emb m c (true, r))]
  rfl

end Cert.KernelIdealRun

end
-- ==== Proof.KernelIdealBody.lean ====
/-
What a device's body starts and ends with, and the passages between its loops.
-/
module

public import proofs.«01_k».proof.Proof.KernelIdealChunks

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- A family over the eight chunks. -/
abbrev each (Φ : Fin 8 → sProp 𝕄) : sProp 𝕄 := bigSep Finset.univ Φ

/-! ## What a device's body starts from -/

/-- Device `c`'s positions at its own cells, and the tokens of the credits it gives. -/
def positions (c : Dev nD) : sProp 𝕄 :=
  iprop(atPos ER (barCell c) 0 ∅ 0 ∗ each (fun r => atPos ER (dCell c 0 r) 0 ∅ 0) ∗ each (fun r => atPos ER (dCell c 1 r) 0 ∅ 0)
    ∗ each (fun r => atPos ER (dCell c 2 r) 0 ∅ 0) ∗ each (fun r => atPos ER (dCell c 3 r) 0 ∅ 0))
def payToks (c : Dev nD) : sProp 𝕄 :=
  iprop(dutyTok ER (barCell (nx c)) 0 false ∗ dutyTok ER (barCell (ny c)) 0 true
    ∗ each (fun r => dutyTok ER (dCell c 0 r) 0 false) ∗ each (fun r => dutyTok ER (dCell (nx c) 1 r) 0 false)
    ∗ each (fun r => dutyTok ER (dCell c 2 r) 0 false) ∗ each (fun r => dutyTok ER (dCell (ny c) 3 r) 0 false))
/-- The credits it waits with. -/
def credits (c : Dev nD) : sProp 𝕄 :=
  iprop(cred (tallyAt (barCell c) () 2) ∗ each (fun r => cred (tallyAt (dCell c 1 r) () N)) ∗ each (fun r => cred (tallyAt (dCell c 3 r) () N)))
/-- Its four scratch buffers, cut into chunks. -/
def scratch (c : Dev nD) : sProp 𝕄 := iprop(anyAll c xsM ∗ anyAll c xrM ∗ anyAll c ysM ∗ anyAll c yrM)

/-- All its semaphores of one array at zero. -/
def zeros (c : Dev nD) (k : Fin 4) : sProp 𝕄 := each fun r => semVal (dCell c k r) 0

def start (c : Dev nD) : sProp 𝕄 := iprop((∃ K, env m K) ∗ positions c ∗ payToks c ∗ credits c)
def Φ₀ (c : Dev nD) : sProp 𝕄 := iprop(start m c ∗ scratch c)

abbrev someAt (c : Dev nD) (b : Ref sig .tc) : sProp 𝕄 := iprop(∃ f : Buf (Elt F) ((c : Thread nD τ).loc b), ((c : Thread nD τ).loc b) ↦{fullShare} f)
/-- What it ends with: its scratch buffers and its semaphores at zero. -/
def Φ₁ (c : Dev nD) : sProp 𝕄 :=
  iprop((someAt c cc0_scratch0 ∗ someAt c cc0_scratch1 ∗ someAt c cc0_scratch2 ∗ someAt c cc0_scratch3)
    ∗ (zeros c 0 ∗ zeros c 1 ∗ zeros c 2 ∗ zeros c 3) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

variable (K : Dev nD × Cid → ℕ)

/-! ## Between the loops -/

theorem each_sep (Φ Ψ : Fin 8 → sProp 𝕄) : each (fun r => iprop(Φ r ∗ Ψ r)) = iprop(each Φ ∗ each Ψ) := bigSep_sep' Finset.univ Φ Ψ

theorem make_preX (c : Dev nD) :
    iprop(anyAll c xsM ∗ anyAll (nx c) xrM ∗ each (fun r => dutyTok ER (dCell c 0 r) 0 false) ∗ each (fun r => dutyTok ER (dCell (nx c) 1 r) 0 false))
      ⊢ (each (preX (F := F) c) : sProp 𝕄) :=
  Entails.of_eq (by unfold preX anyAll; rw [each_sep, each_sep, each_sep])
theorem make_preY (c : Dev nD) :
    iprop(each (fun r => cred (tallyAt (dCell c 1 r) () N)) ∗ each (fun r => atPos ER (dCell c 1 r) 0 ∅ 0) ∗ each (fun r => oAny c (false, r))
        ∗ anyAll c ysM ∗ anyAll (ny c) yrM ∗ each (fun r => dutyTok ER (dCell c 2 r) 0 false) ∗ each (fun r => dutyTok ER (dCell (ny c) 3 r) 0 false))
      ⊢ (each (preY (F := F) c) : sProp 𝕄) :=
  Entails.of_eq (by unfold preY anyAll; rw [each_sep, each_sep, each_sep, each_sep, each_sep, each_sep])
theorem take_postY (c : Dev nD) : each (postY m c) ⊢ iprop(each (fun r => atPos ER (dCell c 1 r) 1 ∅ 0) ∗ each (fun r => has c xrM r (XS m (nx c) r))
    ∗ each (fun r => oHas c (false, r) (SUM m c r)) ∗ each (fun r => cred (tallyAt (dCell c 2 r) () N))) :=
  Entails.of_eq (by unfold postY; rw [each_sep, each_sep, each_sep])
theorem make_preZ (c : Dev nD) :
    iprop(each (fun r => cred (tallyAt (dCell c 3 r) () N)) ∗ each (fun r => atPos ER (dCell c 3 r) 0 ∅ 0) ∗ each (fun r => oAny c (true, r))
        ∗ each (postX (F := F) c) ∗ each (fun r => atPos ER (dCell c 0 r) 0 ∅ 0)
        ∗ each (fun r => cred (tallyAt (dCell c 2 r) () N)) ∗ each (fun r => atPos ER (dCell c 2 r) 0 ∅ 0))
      ⊢ (each (preZ (F := F) c) : sProp 𝕄) :=
  Entails.of_eq (by unfold preZ postX; rw [each_sep, each_sep, each_sep, each_sep, each_sep, each_sep])
theorem take_postZ (c : Dev nD) : each (postZ m c) ⊢ iprop(each (fun r => atPos ER (dCell c 3 r) 1 ∅ 0) ∗ each (fun r => has c yrM r (YS m (ny c) r))
    ∗ each (fun r => oHas c (true, r) (OTH m c r)) ∗ each (fun r => atPos ER (dCell c 0 r) 1 ∅ 0) ∗ each (fun r => has c xsM r (XS m c r))
    ∗ each (fun r => atPos ER (dCell c 2 r) 1 ∅ 0) ∗ each (fun r => has c ysM r (YS m c r))) :=
  Entails.of_eq (by unfold postZ; rw [each_sep, each_sep, each_sep, each_sep, each_sep, each_sep])

/-! ## The ends -/

theorem with_persistent {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- A cell past its round closes: its counter is zero. -/
theorem close_cell (ck : Dev nD × Cid) :
    iprop(env m K ∗ atPos ER (kcell ck) 1 ∅ 0) ⊢ (|={Set.univ}=> semVal (kcell ck) 0 : sProp 𝕄) :=
  (sep_mono_left (env_inv m K ck)).trans
    (Rounds.cell_close ER (Rd m) (Set.mem_univ (K ck)) (fun h => h) (R := 1) (duties_later m (kcell ck)))
/-- So do all of an array's. -/
theorem close_cells (c : Dev nD) (k : Fin 4) :
    iprop(env m K ∗ each (fun r => atPos ER (dCell c k r) 1 ∅ 0)) ⊢ (|={Set.univ}=> zeros c k : sProp 𝕄) :=
  (with_persistent fun r => close_cell m K (c, some (k, r))).trans (bigSep_fupd _ _)

/-- A buffer's chunks put together are the buffer. -/
theorem some_of_chunks (c : Dev nD) (b : Ref sig .tc) (X : b.ty.Contents (Elt F)) :
    (owns (c : Thread nD τ) (Memref.whole b) fullShare X : sProp 𝕄) ⊢ someAt c b := by
  rw [owns_whole]
  iintro H; iexists X; iexact H

end Cert.KernelIdealRun

end
-- ==== Proof.KernelIdealBodyRun.lean ====
/-
A device's body run: the handshake with both neighbours, then the three loops.
-/
module

public import proofs.«01_k».proof.Proof.KernelIdealBody

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

variable (K : Dev nD × Cid → ℕ)

/-! ## The handshake -/

/-- The two signals and the wait at the body's head: a device hands its landing buffers to its neighbours and gets theirs. -/
theorem handshake (c n₁ n₂ : Dev nD) (h₁ : n₁ = nx c) (h₂ : n₂ = ny c) {a₁ a₂ b : ℤ} (ha₁ : a₁ = ((1 : ℕ) : ℤ)) (ha₂ : a₂ = ((1 : ℕ) : ℤ))
    (hb : b = ((2 : ℕ) : ℤ)) {k : PUnit → Prog (TpuEff nD τ sig (Elt F) Λ₀ .tc) PUnit} {Q : PUnit → sProp 𝕄} :
    iprop(env m K ∗ owing c (O₀ c) ∗ dutyTok ER (barCell (nx c)) 0 false ∗ dutyTok ER (barCell (ny c)) 0 true
        ∗ anyAll c xrM ∗ anyAll c yrM ∗ cred (tallyAt (barCell c) () 2) ∗ atPos ER (barCell c) 0 ∅ 0)
      ⊢ iprop(((owing c (O₂ c) ∗ atPos ER (barCell c) 1 ∅ 0 ∗ anyAll (nx c) xrM ∗ anyAll (ny c) yrM) -∗ run c (k ⟨⟩) Q)
          -∗ run c (.op (.semSignal (n₁ : Thread nD τ) barS a₁) fun _ => .op (.semSignal (n₂ : Thread nD τ) barS a₂) fun _ =>
              .op (.semWait barS b) k) Q) := by
  subst h₁ h₂ ha₁ ha₂ hb
  have p₁ : (anyAll c xrM : sProp 𝕄) ⊢ (Rd (F := F) m).payload (barCell (nx c)) 0 false := Entails.of_eq (by
    show _ = anyAll (nx (nx c)) xrM
    rw [nx_nx])
  have p₂ : (anyAll c yrM : sProp 𝕄) ⊢ (Rd (F := F) m).payload (barCell (ny c)) 0 true := Entails.of_eq (by
    show _ = anyAll (ny (ny c)) yrM
    rw [ny_ny])
  unfold owing
  iintro ⟨#He, ⟨%W, HO⟩, Ht₁, Ht₂, Hx, Hy, Hc, Hat⟩ Hk
  iapply (Rounds.wp_signal 𝒱₀ ER (Rd m) (c : Thread nD τ) none (dst := (nx c : Thread nD τ)) (sem := barS) (κ := K (nx c, none)) (r := 0) (d := false) (k' := 1)
      (by rw [duties_bar]; exact Finset.mem_univ _) (amount_bar m (nx c) false) () (O₁ c) rfl) $$ [HO Ht₁ Hx]
  · isplitr; · iapply (env_inv m K (nx c, none)); iexact He
    isplitl [HO]; · iexact HO
    isplitl [Ht₁]; · iexact Ht₁
    isplitl [Hx]; · iapply p₁; iexact Hx
    iapply (env_reached m K (nx c, none)); iexact He
  iintro HO
  iapply (Rounds.wp_signal 𝒱₀ ER (Rd m) (c : Thread nD τ) none (dst := (ny c : Thread nD τ)) (sem := barS) (κ := K (ny c, none)) (r := 0) (d := true) (k' := 1)
      (by rw [duties_bar]; exact Finset.mem_univ _) (amount_bar m (ny c) true) () (O₂ c) rfl) $$ [HO Ht₂ Hy]
  · isplitr; · iapply (env_inv m K (ny c, none)); iexact He
    isplitl [HO]; · iexact HO
    isplitl [Ht₂]; · iexact Ht₂
    isplitl [Hy]; · iapply p₂; iexact Hy
    iapply (env_reached m K (ny c, none)); iexact He
  iintro HO
  iapply (Rounds.wp_wait_rest_token 𝒱₀ ER (Rd m) (c : Thread nD τ) none (κ := K (c, none))
      (wpE_semWait_eq 𝒱₀ (c : Thread nD τ) none Set.univ) (Set.mem_univ _) (k' := 2) () (O := O₂ c) (W := W) (R := 0) (m := 0) (T := ∅)
      (by rw [show ((c : Thread nD τ), SemLoc.reg barS) = barCell c from rfl, expect_bar])) $$ [Hc HO Hat]
  · isplitr; · iapply (env_inv m K (c, none)); iexact He
    isplitl [Hc]; · iexact Hc
    isplitl [HO]; · iexact HO
    isplitr
    · iapply (mayWait (F := F) c (.reg barS) 1 (le_refl _) (above_O₂ c)); iapply (env_lev m K); iexact He
    iexact Hat
  iintro ⟨HO, Hat, -, Hpay⟩
  ihave Hp := (Entails.of_eq (rest_bar m c)) $$ Hpay
  icases Hp with ⟨Hx, Hy⟩
  iapply Hk
  isplitl [HO]; · iexists _; iexact HO
  isplitl [Hat]; · iexact Hat
  isplitl [Hx] <;> iassumption

/-! ## The body -/

def bodyPre (c : Dev nD) : sProp 𝕄 :=
  iprop((env m K ∗ positions c ∗ payToks c ∗ credits c ∗ scratch c) ∗ owing c (O₀ c) ∗ xPts m c
    ∗ ∃ X, owns (c : Thread nD τ) oM fullShare X)
def bodyEnd (c : Dev nD) : sProp 𝕄 := iprop(Φ₁ c ∗ owing c 0 ∗ xPts m c ∗ owns (c : Thread nD τ) oM fullShare (outAt m c))

/-- Entering each loop. -/
theorem enterX (c : Dev nD) : iprop(xPts m c ∗ owing c (O₂ c) ∗ loop 0 (preX c) (postX c)) ⊢ stX m c 0 :=
  Entails.of_eq (by unfold stX O₂; rw [todo_zero])
theorem enterY (c : Dev nD) :
    iprop(xPts m c ∗ owing c (owe (ny c) 3 Finset.univ + owe (nx c) 1 (todo 8)) ∗ loop 0 (preY c) (postY m c)) ⊢ stY m c 0 :=
  Entails.of_eq (by unfold stY; rw [todo_zero, owe_nil, add_zero])
theorem enterZ (c : Dev nD) : iprop(owing c (owe (ny c) 3 (todo 8)) ∗ loop 0 (preZ c) (postZ m c)) ⊢ stZ m c 0 :=
  Entails.of_eq (by unfold stZ; rw [owe_nil])

set_option maxHeartbeats 8000000 in
/-- The body run from its start to its end: the handshake, then each loop's eight chunks in turn. -/
theorem sound_body (c : Dev nD) (Kt : PUnit → sProp 𝕄) :
    iprop(bodyPre m K c ∗ (bodyEnd m c -∗ Kt ⟨⟩))
      ⊢ run c (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel
  simp only [semSignalWord, semWaitWord, Prog.lift, Prog.bind_op, Prog.bind_ret, Prog.pure_eq_ret, wp_deviceId]
  unfold bodyPre positions payToks credits scratch
  iintro ⟨⟨⟨#He, ⟨HatB, Ha0, Ha1, Ha2, Ha3⟩, ⟨HtB1, HtB2, Ht0, Ht1, Ht2, Ht3⟩, ⟨HcB, Hc1, Hc3⟩, Hxs, Hxr, Hys, Hyr⟩, HO, Hx, ⟨%X, Hout⟩⟩, Hk⟩
  iapply (handshake m K c _ _ (Fin.ext (k0_dev1_eq c)) (Fin.ext (k0_dev2_eq c)) (by decide) (by decide) (by decide)) $$ [HO HtB1 HtB2 Hxr Hyr HcB HatB]
  · isplitr; · iexact He
    isplitl [HO]; · iexact HO
    isplitl [HtB1]; · iexact HtB1
    isplitl [HtB2]; · iexact HtB2
    isplitl [Hxr]; · iexact Hxr
    isplitl [Hyr]; · iexact Hyr
    isplitl [HcB]; · iexact HcB
    iexact HatB
  iintro ⟨HO, HatB, Hxr, Hyr⟩
  ihave Hpre := (make_preX (F := F) c) $$ [Hxs Hxr Ht0 Ht1]
  · isplitl [Hxs]; · iexact Hxs
    isplitl [Hxr]; · iexact Hxr
    isplitl [Ht0] <;> iassumption
  ihave H := (loop_start (preX (F := F) c) (postX c)) $$ Hpre
  ihave H := (enterX m c) $$ [Hx HO H]
  · isplitl [Hx]; · iexact Hx
    isplitl [HO] <;> iassumption
  iapply (stepX m K c _ (Fin.ext (k0_dev3_eq c)) 0 rfl (off1_eq c 0) rfl rfl rfl) $$ He [H]; · iexact H
  iintro H
  iapply (stepX m K c _ (Fin.ext (k0_dev4_eq c)) 1 rfl (off1_eq c 1) rfl rfl rfl) $$ He [H]; · iexact H
  iintro H
  iapply (stepX m K c _ (Fin.ext (k0_dev5_eq c)) 2 rfl (off1_eq c 2) rfl rfl rfl) $$ He [H]; · iexact H
  iintro H
  iapply (stepX m K c _ (Fin.ext (k0_dev6_eq c)) 3 rfl (off1_eq c 3) rfl rfl rfl) $$ He [H]; · iexact H
  iintro H
  iapply (stepX m K c _ (Fin.ext (k0_dev7_eq c)) 4 rfl (off1_eq c 4) rfl rfl rfl) $$ He [H]; · iexact H
  iintro H
  iapply (stepX m K c _ (Fin.ext (k0_dev8_eq c)) 5 rfl (off1_eq c 5) rfl rfl rfl) $$ He [H]; · iexact H
  iintro H
  iapply (stepX m K c _ (Fin.ext (k0_dev9_eq c)) 6 rfl (off1_eq c 6) rfl rfl rfl) $$ He [H]; · iexact H
  iintro H
  iapply (stepX m K c _ (Fin.ext (k0_dev10_eq c)) 7 rfl (off1_eq c 7) rfl rfl rfl) $$ He [H]; · iexact H
  iintro H
  unfold stX
  icases H with ⟨Hx, HO, H⟩
  ihave Hc0 := (loop_end (preX (F := F) c) (postX c)) $$ [H]; · iexact H
  ihave Hcut := (cut_out c X) $$ Hout
  icases Hcut with ⟨Hof, Hot⟩
  ihave Hpre := (make_preY (F := F) c) $$ [Hc1 Ha1 Hof Hys Hyr Ht2 Ht3]
  · isplitl [Hc1]; · iexact Hc1
    isplitl [Ha1]; · iexact Ha1
    isplitl [Hof]; · iexact Hof
    isplitl [Hys]; · iexact Hys
    isplitl [Hyr]; · iexact Hyr
    isplitl [Ht2] <;> iassumption
  ihave H := (loop_start (preY (F := F) c) (postY m c)) $$ Hpre
  ihave H := (enterY m c) $$ [Hx HO H]
  · isplitl [Hx]; · iexact Hx
    isplitl [HO]; · iexact HO
    iexact H
  iapply (stepY m K c _ (Fin.ext (k0_dev11_eq c)) 0 rfl (off1_eq c 0) rfl rfl rfl rfl rfl) $$ He [H]; · iexact H
  iintro H
  iapply (stepY m K c _ (Fin.ext (k0_dev12_eq c)) 1 rfl (off1_eq c 1) rfl rfl rfl rfl rfl) $$ He [H]; · iexact H
  iintro H
  iapply (stepY m K c _ (Fin.ext (k0_dev13_eq c)) 2 rfl (off1_eq c 2) rfl rfl rfl rfl rfl) $$ He [H]; · iexact H
  iintro H
  iapply (stepY m K c _ (Fin.ext (k0_dev14_eq c)) 3 rfl (off1_eq c 3) rfl rfl rfl rfl rfl) $$ He [H]; · iexact H
  iintro H
  iapply (stepY m K c _ (Fin.ext (k0_dev15_eq c)) 4 rfl (off1_eq c 4) rfl rfl rfl rfl rfl) $$ He [H]; · iexact H
  iintro H
  iapply (stepY m K c _ (Fin.ext (k0_dev16_eq c)) 5 rfl (off1_eq c 5) rfl rfl rfl rfl rfl) $$ He [H]; · iexact H
  iintro H
  iapply (stepY m K c _ (Fin.ext (k0_dev17_eq c)) 6 rfl (off1_eq c 6) rfl rfl rfl rfl rfl) $$ He [H]; · iexact H
  iintro H
  iapply (stepY m K c _ (Fin.ext (k0_dev18_eq c)) 7 rfl (off1_eq c 7) rfl rfl rfl rfl rfl) $$ He [H]; · iexact H
  iintro H
  unfold stY
  icases H with ⟨Hx, HO, H⟩
  ihave Hpost := (loop_end (preY (F := F) c) (postY m c)) $$ [H]; · iexact H
  ihave Hpost := (take_postY m c) $$ Hpost
  icases Hpost with ⟨Ha1, Hxr, Hof, Hc2⟩
  ihave Hpre := (make_preZ (F := F) c) $$ [Hc3 Ha3 Hot Hc0 Ha0 Hc2 Ha2]
  · isplitl [Hc3]; · iexact Hc3
    isplitl [Ha3]; · iexact Ha3
    isplitl [Hot]; · iexact Hot
    isplitl [Hc0]; · iexact Hc0
    isplitl [Ha0]; · iexact Ha0
    isplitl [Hc2] <;> iassumption
  ihave H := (loop_start (preZ (F := F) c) (postZ m c)) $$ Hpre
  ihave H := (enterZ m c) $$ [HO H]
  · isplitl [HO]; · iexact HO
    iexact H
  iapply (stepZ m K c 0 rfl (off2_eq c 0) rfl rfl rfl rfl) $$ He [H]; · iexact H
  iintro H
  iapply (stepZ m K c 1 rfl (off2_eq c 1) rfl rfl rfl rfl) $$ He [H]; · iexact H
  iintro H
  iapply (stepZ m K c 2 rfl (off2_eq c 2) rfl rfl rfl rfl) $$ He [H]; · iexact H
  iintro H
  iapply (stepZ m K c 3 rfl (off2_eq c 3) rfl rfl rfl rfl) $$ He [H]; · iexact H
  iintro H
  iapply (stepZ m K c 4 rfl (off2_eq c 4) rfl rfl rfl rfl) $$ He [H]; · iexact H
  iintro H
  iapply (stepZ m K c 5 rfl (off2_eq c 5) rfl rfl rfl rfl) $$ He [H]; · iexact H
  iintro H
  iapply (stepZ m K c 6 rfl (off2_eq c 6) rfl rfl rfl rfl) $$ He [H]; · iexact H
  iintro H
  iapply (stepZ m K c 7 rfl (off2_eq c 7) rfl rfl rfl rfl) $$ He [H]; · iexact H
  iintro H
  unfold stZ
  icases H with ⟨HO, H⟩
  ihave Hpost := (loop_end (preZ (F := F) c) (postZ m c)) $$ [H]; · iexact H
  ihave Hpost := (take_postZ m c) $$ Hpost
  icases Hpost with ⟨Ha3, Hyr, Hot, Ha0, Hxs, Ha2, Hys⟩
  imod (close_cells m K c 0) $$ [Ha0] with Hz0
  · isplitr; · iexact He
    iexact Ha0
  imod (close_cells m K c 1) $$ [Ha1] with Hz1
  · isplitr; · iexact He
    iexact Ha1
  imod (close_cells m K c 2) $$ [Ha2] with Hz2
  · isplitr; · iexact He
    iexact Ha2
  imod (close_cells m K c 3) $$ [Ha3] with Hz3
  · isplitr; · iexact He
    iexact Ha3
  imod (close_cell m K (c, none)) $$ [HatB] with HzB
  · isplitr; · iexact He
    iexact HatB
  rw [wp_ret]; imodintro
  iapply Hk
  unfold bodyEnd Φ₁
  isplitr [HO Hx Hof Hot]
  · isplitl [Hxs Hxr Hys Hyr]
    · isplitl [Hxs]; · iapply (some_of_chunks c cc0_scratch0 _); iapply (join_chunks c xsM (XS m c)); iexact Hxs
      isplitl [Hxr]; · iapply (some_of_chunks c cc0_scratch1 _); iapply (join_chunks c xrM (XS m (nx c))); iexact Hxr
      isplitl [Hys]; · iapply (some_of_chunks c cc0_scratch2 _); iapply (join_chunks c ysM (YS m c)); iexact Hys
      iapply (some_of_chunks c cc0_scratch3 _); iapply (join_chunks c yrM (YS m (ny c))); iexact Hyr
    isplitr [HzB]
    · isplitl [Hz0]; · iexact Hz0
      isplitl [Hz1]; · iexact Hz1
      isplitl [Hz2] <;> iassumption
    iexact HzB
  isplitl [HO]; · iexact HO
  isplitl [Hx]; · iexact Hx
  iapply (join_out m c)
  isplitl [Hof] <;> iassumption

end Cert.KernelIdealRun

end
-- ==== Proof.KernelIdealLaunch.lean ====
/-
The launch: the cells' invariants and tokens dealt to the devices, and the whole program run.
-/
module

public import proofs.«01_k».proof.Proof.KernelIdealBodyRun
public import Idealize.ShloMosaic.Lib.Pipeline.CollectiveSegs
public import Idealize.ShloMosaic.Lib.Quiescent

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch asks for it -/

/-- What the library hands the body. -/
def bodyStart (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
/-- What it asks back. -/
def bodyPost (c : Dev nD) : sProp 𝕄 :=
  iprop(Φ₁ c ∗ (dats m 0 c).owesAt () t0_0.succ ∗ stg c cc0_stg0_0 (xstg m c) ∗ stg c cc0_stg1_0 (outAt m c))

theorem take_start (c : Dev nD) : bodyStart m c ⊢ iprop(∃ K, bodyPre m K c) := by
  unfold bodyStart Φ₀ start bodyPre Dat.owesAt Pipeline.owesWithin owing xPts
  iintro ⟨⟨⟨⟨%K, #He⟩, Hp, Ht, Hc⟩, Hs⟩, ⟨%W, %hW, HO⟩, ⟨%d0, %g0, %hg0, Hx⟩, ⟨%d1, %g1, %hg1, Hout⟩⟩
  have hx : g0 = xstg m c := by rw [hg0]; unfold Dat.before; rw [if_pos (fetch_0 t0_0)]; rfl
  subst hx
  iexists K
  isplitl [Hp Ht Hc Hs]
  · isplitr; · iexact He
    isplitl [Hp]; · iexact Hp
    isplitl [Ht]; · iexact Ht
    isplitl [Hc] <;> iassumption
  isplitl [HO]; · iexists W; iexact HO
  isplitl [Hx]; · iexact Hx
  iexists g1
  iapply (Entails.of_eq (owns_whole (c : Thread nD τ) cc0_stg1_0 fullShare g1).symm)
  iexact Hout

theorem give_end (c : Dev nD) : bodyEnd m c ⊢ bodyPost m c := by
  unfold bodyEnd bodyPost Dat.owesAt Pipeline.owesWithin owing xPts
  iintro ⟨HΦ, ⟨%W, HO⟩, Hx, Hout⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iapply (Entails.of_eq (owns_whole (c : Thread nD τ) cc0_stg1_0 fullShare (outAt m c)))
  iexact Hout

set_option maxRecDepth 40000 in
/-- The library's body obligation on core `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyStart m c ⊢ run c (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7) (fun _ => bodyPost m c)
  iintro H
  ihave H := (take_start m c) $$ H
  icases H with ⟨%K, H⟩
  iapply (sound_body m K c fun _ => bodyPost m c)
  isplitl [H]; · iexact H
  iintro H
  iapply (give_end m c); iexact H

/-! ## The launch -/

theorem ownSemFacts : Pipeline.OwnSemFacts cfg0.spec osem := by decide

theorem share_eq (c : Dev nD) (w : Fin cfg0.W) : (dats m 0 c).share w = fullShare := by unfold Dat.share; split <;> rfl

theorem osem_injective : Function.Injective osem := fun kr kr' h => by
  have h' : dsem kr.1 kr.2 = dsem kr'.1 kr'.2 := SemLoc.dma.inj h
  have hk := congrArg kOf h'
  have hr := congrArg rOf h'
  rw [kOf_dsem, kOf_dsem] at hk
  rw [rOf_dsem, rOf_dsem] at hr
  exact Prod.ext (Fin.ext hk) hr

theorem kcell_injective : Function.Injective (kcell : Dev nD × Cid → GSem nD τ sig) := by
  rintro ⟨c, i⟩ ⟨c', i'⟩ h
  have h1 : c = c' := congrArg (fun g : GSem nD τ sig => g.1.1) h
  subst h1
  have h2 : csem i = csem i' := congrArg Prod.snd h
  cases i <;> cases i'
  · rfl
  · cases h2
  · cases h2
  · exact congrArg (fun kr => (c, some kr)) (osem_injective h2)

/-- All cells, and the tokens minted for them. -/
def cells : Finset (GSem nD τ sig) := Finset.univ.map ⟨kcell, kcell_injective⟩
abbrev tokOf (x : (Dev nD × Cid) × Bool) : GSem nD τ sig × ℕ × Bool := (kcell x.1, 0, x.2)
theorem tokOf_injective : Function.Injective tokOf := fun x y h =>
  Prod.ext (kcell_injective (congrArg Prod.fst h)) (congrArg (fun z : GSem nD τ sig × ℕ × Bool => z.2.2) h)
def tokens : Finset (GSem nD τ sig × ℕ × Bool) := Finset.univ.map ⟨tokOf, tokOf_injective⟩

def u₀ : UU := (initOf (Pipeline.cells cfgs cellOf_inj) (Pipeline.launchToks cfgs cellOf_inj), initOf cells tokens)

/-- A family over a device's cells: the barrier's member and the four arrays' eight each. -/
theorem bigSep_cid (Φ : Cid → sProp 𝕄) :
    bigSep Finset.univ Φ = iprop(Φ none ∗ each (fun r => Φ (some (0, r))) ∗ each (fun r => Φ (some (1, r)))
      ∗ each (fun r => Φ (some (2, r))) ∗ each (fun r => Φ (some (3, r)))) := by
  have h : (Finset.univ.erase none : Finset Cid) = Finset.univ.map ⟨some, Option.some_injective _⟩ := by decide
  rw [bigSep_univ_at Φ none, h, bigSep_map, bigSep_univ_prod, bigSep_univ_eq_bigSepL [0, 1, 2, 3] (by decide) (by decide)]
  rfl

/-- The tokens of device `c`'s own cells. -/
def toks (c : Dev nD) : sProp 𝕄 :=
  bigSep Finset.univ fun i : Cid => iprop(dutyTok ER (kcell (c, i)) 0 false ∗ dutyTok ER (kcell (c, i)) 0 true)

/-- What the launch deals device `c`, and what the devices make of it together. -/
def G (c : Dev nD) : sProp 𝕄 :=
  iprop((bigSep Finset.univ fun i : Cid => roundState ER (Rd m) (kcell (c, i)) 0)
    ∗ (bigSep Finset.univ fun i : Cid => iprop(atPos ER (kcell (c, i)) 0 ∅ 0 ∗ reached ER (kcell (c, i)) 0)) ∗ toks c)
def G' (c : Dev nD) : sProp 𝕄 := iprop((∃ K, records m K) ∗ positions c ∗ payToks c)

theorem fund_cells : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun i : Cid => Φ (kcell (c, i)) := by
    unfold cells; rw [bigSep_map, bigSep_univ_prod]; rfl
  have hT : bigSep tokens (fun x => (dutyTok ER x.1 x.2.1 x.2.2 : sProp 𝕄)) = bigSep Finset.univ fun c : Dev nD => toks c := by
    unfold tokens toks
    rw [bigSep_map, bigSep_univ_prod, bigSep_univ_prod]
    exact bigSep_congr fun c _ => bigSep_congr fun i _ => bigSep_bool _
  iintro HX
  imod (Rounds.fund ER (Rd m) cells tokens) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's own semaphores are the four arrays', and its unscoped one the barrier's. -/
theorem ownSems0_eq (c : Dev nD) : (Pipeline.ownSems0 (Ix := Unit) (Name := ℕ) (U := UU) (Lvl := ℕ) (Val := Elt F) (τ := τ) osem c : sProp 𝕄)
    = iprop(zeros c 0 ∗ zeros c 1 ∗ zeros c 2 ∗ zeros c 3) := by
  unfold Pipeline.ownSems0
  rw [bigSep_univ_prod, bigSep_univ_eq_bigSepL [0, 1, 2, 3] (by decide) (by decide)]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Cid => semVal (kcell (c, i)) 0 : sProp 𝕄) := by
  rw [ownSems0_eq, unscopedSems0_eq, bigSep_cid]
  unfold zeros
  iintro ⟨H, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (Rd m) κ (kcell (c, i))))
          ∗ (bigSep Finset.univ fun i => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Cid => semVal (kcell (c, i)) 0) ∗ bigSep Finset.univ fun i : Cid => roundState ER (Rd m) (kcell (c, i)) 0)
      ⊢ (|={Set.univ}=> bigSep Finset.univ fun i => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem positions_eq (c : Dev nD) : (bigSep Finset.univ fun i : Cid => (atPos ER (kcell (c, i)) 0 ∅ 0 : sProp 𝕄)) = positions c :=
  bigSep_cid _

/-- A device's tokens, the unneeded ones dropped. -/
def ownToks (c : Dev nD) : sProp 𝕄 :=
  iprop(dutyTok ER (barCell c) 0 false ∗ dutyTok ER (barCell c) 0 true
    ∗ each (fun r => dutyTok ER (dCell c 0 r) 0 false) ∗ each (fun r => dutyTok ER (dCell c 1 r) 0 false)
    ∗ each (fun r => dutyTok ER (dCell c 2 r) 0 false) ∗ each (fun r => dutyTok ER (dCell c 3 r) 0 false))
theorem toks_own (c : Dev nD) : (toks c : sProp 𝕄) ⊢ ownToks c := by
  unfold toks ownToks
  rw [bigSep_sep', bigSep_cid (fun i : Cid => (dutyTok ER (kcell (c, i)) 0 false : sProp 𝕄)), bigSep_univ_at (fun i : Cid => (dutyTok ER (kcell (c, i)) 0 true : sProp 𝕄)) none]
  iintro ⟨⟨HB, H⟩, HB', -⟩
  isplitl [HB]; · iexact HB
  isplitl [HB']; · iexact HB'
  iexact H

/-- The tokens passed to the neighbours that pay with them. -/
theorem toks_around : (bigSep Finset.univ fun c : Dev nD => (toks c : sProp 𝕄)) ⊢ bigSep Finset.univ fun c : Dev nD => payToks c := by
  refine (bigSep_mono fun c _ => toks_own c).trans ?_
  unfold ownToks payToks
  rw [bigSep_sep', bigSep_sep', bigSep_sep', bigSep_sep', bigSep_sep', bigSep_sep', bigSep_sep', bigSep_sep', bigSep_sep', bigSep_sep',
    bigSep_univ_equiv nxE (fun c : Dev nD => (dutyTok ER (barCell c) 0 false : sProp 𝕄)),
    bigSep_univ_equiv nyE (fun c : Dev nD => (dutyTok ER (barCell c) 0 true : sProp 𝕄)),
    bigSep_univ_equiv nxE (fun c : Dev nD => (each (fun r => dutyTok ER (dCell c 1 r) 0 false) : sProp 𝕄)),
    bigSep_univ_equiv nyE (fun c : Dev nD => (each (fun r => dutyTok ER (dCell c 3 r) 0 false) : sProp 𝕄))]
  exact Entails.refl _

theorem deal (K : Dev nD × Cid → ℕ) (c : Dev nD) : iprop(records m K ∗ positions c ∗ payToks c) ⊢ G' m c := by
  unfold G'
  iintro ⟨HR, H⟩
  isplitl [HR]; · iexists K; iexact HR
  iexact H

theorem regroup :
    (bigSep Finset.univ fun c : Dev nD => iprop((bigSep Finset.univ fun i => iprop(∃ κ : ℕ, cellInv ER (Rd m) κ (kcell (c, i))))
          ∗ (bigSep Finset.univ fun i => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ck : Dev nD × Cid => iprop(∃ κ : ℕ, cellInv ER (Rd m) κ (kcell ck))),
    bigSep_congr (s := Finset.univ) (fun (c : Dev nD) _ => bigSep_sep' Finset.univ (fun i : Cid => (atPos ER (kcell (c, i)) 0 ∅ 0 : sProp 𝕄)) (fun i => reached ER (kcell (c, i)) 0)),
    bigSep_sep', ← bigSep_univ_prod (fun ck : Dev nD × Cid => (reached ER (kcell ck) 0 : sProp 𝕄)),
    bigSep_congr (s := Finset.univ) (fun (c : Dev nD) _ => positions_eq c)]
  iintro ⟨HI, ⟨Hat, #HR⟩, Htok⟩
  ihave HK := (BI.bigSep_exists_pi Finset.univ (fun (ck : Dev nD × Cid) (κ : ℕ) => (cellInv ER (Rd m) κ (kcell ck) : sProp 𝕄))) $$ HI
  icases HK with ⟨%K, #HI⟩
  ihave Htk := (toks_around (F := F)) $$ Htok
  iapply (with_persistent (R := records m K) fun c => deal m K c)
  isplitr
  · unfold records; isplitl; · iexact HI
    iexact HR
  · rw [bigSep_sep']
    isplitl [Hat]; · iexact Hat
    iexact Htk

/-- What the devices do together before the launch: the cells' invariants made, the tokens passed around. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch's credits -/

theorem credits_intro (c : Dev nD) : (Pipeline.launchCred O₀ c : sProp 𝕄) ⊢ credits c := by
  have hbx : (Pipeline.launchCred (fun d => tallyAt (barCell (nx d)) () 1) c : sProp 𝕄) ⊢ cred (tallyAt (barCell c) () 1) :=
    Pipeline.launchCred_tallyAt (.reg barS) nx nx nx_nx nx_nx () 1 c
  have hby : (Pipeline.launchCred (fun d => tallyAt (barCell (ny d)) () 1) c : sProp 𝕄) ⊢ cred (tallyAt (barCell c) () 1) :=
    Pipeline.launchCred_tallyAt (.reg barS) ny ny ny_ny ny_ny () 1 c
  have hx : (Pipeline.launchCred (fun d => owe (nx d) 1 Finset.univ) c : sProp 𝕄) ⊢ each fun r => cred (tallyAt (dCell c 1 r) () N) := by
    unfold owe; rw [Pipeline.launchCred_sum]
    exact bigSep_mono fun r _ => Pipeline.launchCred_tallyAt (osem (1, r)) nx nx nx_nx nx_nx () N c
  have hy : (Pipeline.launchCred (fun d => owe (ny d) 3 Finset.univ) c : sProp 𝕄) ⊢ each fun r => cred (tallyAt (dCell c 3 r) () N) := by
    unfold owe; rw [Pipeline.launchCred_sum]
    exact bigSep_mono fun r _ => Pipeline.launchCred_tallyAt (osem (3, r)) ny ny ny_ny ny_ny () N c
  have h2 : iprop(cred (tallyAt (barCell c) () 1) ∗ cred (tallyAt (barCell c) () 1)) ⊢ (cred (tallyAt (barCell c) () 2) : sProp 𝕄) := by
    rw [show (2 : ℕ) = 1 + 1 from rfl, ← tallyAt_add]; exact (cred_add _ _).2
  unfold O₀ O₁ O₂ credits
  rw [Pipeline.launchCred_add, Pipeline.launchCred_add, Pipeline.launchCred_add]
  iintro ⟨⟨⟨Hy, Hx⟩, Hb⟩, Hb'⟩
  isplitl [Hb Hb']
  · iapply h2
    isplitl [Hb]; · iapply hby; iexact Hb
    iapply hbx; iexact Hb'
  isplitl [Hx]; · iapply hx; iexact Hx
  iapply hy; iexact Hy

/-! ### The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' env
  iintro ⟨-, #Hlev, Hcr, -, ⟨%K, #HR⟩, Hp, Ht⟩
  ihave Hc := (credits_intro (F := F) c) $$ Hcr
  imodintro
  isplitl
  · isplitr
    · iexists K
      isplitl; · iexact HR
      iexact Hlev
    isplitl [Hp]; · iexact Hp
    isplitl [Ht] <;> iassumption
  · iempintro

theorem cut_scratch (c : Dev nD) (b : Ref sig .tc) (f : Buf (Elt F) ((c : Thread nD τ).loc b)) :
    (((c : Thread nD τ).loc b) ↦{fullShare} f : sProp 𝕄) ⊢ owns (c : Thread nD τ) (Memref.whole b) fullShare f :=
  Entails.of_eq (owns_whole (c : Thread nD τ) b fullShare f).symm

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, ⟨%f0, H0⟩, ⟨%f1, H1⟩, ⟨%f2, H2⟩, ⟨%f3, H3⟩⟩
  isplitl [Hs]; · iexact Hs
  isplitl [H0]; · iapply (cut_chunks c xsM f0); iapply (cut_scratch c cc0_scratch0 f0); iexact H0
  isplitl [H1]; · iapply (cut_chunks c xrM f1); iapply (cut_scratch c cc0_scratch1 f1); iexact H1
  isplitl [H2]; · iapply (cut_chunks c ysM f2); iapply (cut_scratch c cc0_scratch2 f2); iexact H2
  iapply (cut_chunks c yrM f3); iapply (cut_scratch c cc0_scratch3 f3); iexact H3

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁
  iintro ⟨Hr, Hz, HzB⟩
  isplitl [HzB]; · iexact HzB
  isplitl [Hz] <;> iassumption

theorem waits (c : Dev nD) : (levAts L lv : sProp 𝕄) ⊢ Pipeline.cellsWaits cfgs (dats m) () 0 c :=
  Pipeline.cellsWaits_intro cfgs (dats m) () 0 c fun w s t =>
    mayWait c _ 0 (by fin_cases w <;> fin_cases s <;> decide) (by
      rcases t with ⟨_ | _, ht⟩
      · exact above_O₀ c
      · exact Above.zero 0)

/-! ### The run -/

/-- The memory and counters a run starts from. -/
abbrev s₀ : MemSt nD τ sig (Elt F) := ⟨m, fun _ => 0, ρ⟩

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters every run ends, each device's arrays at the contents computed and every semaphore
    counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The `x` array ends as it began. -/
theorem finalA_x (c : Dev nD) : finalA m c (0 : Fin 2) = m (win0_0.arr.view.loc (c : Thread nD τ)) :=
  (dats (F := F) m 0 c).arrAt_in (0 : Fin 2) rfl _

end Cert.KernelIdealRun

end
-- ==== Proof.KernelIdealResult.lean ====
/-
The run in terms of the program's own arrays: what each device's result array holds, and that `x` is unchanged.
-/
module

public import proofs.«01_k».proof.Proof.KernelIdealLaunch
public import proofs.«01_k».proof.Proof.Gen.KernelIdeal.Points
public import Idealize.ShloMosaic.Lib.Pipeline.Value

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The windows are whole arrays -/

theorem in_emb (i : S1024x512.Idx) : (win0_0.blk (0 : Fin 1)).view.emb i = i :=
  funext fun a => Fin.ext (by
    show 0 * _ + 1 * (i a).val = (i a).val
    omega)
theorem out_emb (t : Fin cfg0.N) (i : S1024x512.Idx) : ((cfg0.win 1).blk t).view.emb i = i :=
  funext fun a => Fin.ext (by
    show 0 * _ + 1 * (i a).val = (i a).val
    omega)

/-- Device `c`'s array `x`. -/
abbrev xArr (c : Dev nD) : S1024x512.Idx → Elt F .f32 := m ((c : Thread nD τ).loc main_arg0)

/-- A device stages its whole `x`. -/
theorem xstg_eq (c : Dev nD) : xstg m c = xArr m c := funext fun i => congrArg (xArr m c) (in_emb i)

/-- So a chunk's element is the element of `x` at its place. -/
theorem xv_apply (c : Dev nD) (r : Fin 8) (j : S64x512.Idx) : xv m c r j = xArr m c ((oR c (false, r)).emb j) := by
  unfold xv; rw [xstg_eq]; rfl

theorem flushed_out (c : Dev nD) (t : Fin cfg0.N) :
    (dats m 0 c).flushed 1 t = ((cfg0.win 1).blk t).view.read (Elt F) (outAt m c) := by
  refine funext fun i => ?_
  show outAt m c i = outAt m c (((cfg0.win 1).blk t).view.emb i)
  rw [out_emb]

/-- The result array ends at the result staged. -/
theorem finalA_out (c : Dev nD) : finalA m c 1 = outAt m c :=
  (dats m 0 c).arrAt_eq_of_cover 1 (outAt m c) (fun t _ => flushed_out m c t) fun i =>
    ⟨t0_0, flush0_1 _, by
      have h : ((cfg0.win 1).blk t0_0).view.emb i ∈ ((cfg0.win 1).blk t0_0).view.set := View.emb_mem_set _ _
      rw [out_emb] at h; exact h⟩

/-- Every run ends with the result on each device, `x` unchanged and the counters at zero. -/
theorem run_result : θ_run defs (onTc (τ := τ) (main (F := F))) (s₀ m ρ) (fun r => (∀ c : Dev nD,
    r.2.mem ((c : Thread nD τ).loc main_v1) = outAt m c ∧ r.2.mem ((c : Thread nD τ).loc main_arg0) = m ((c : Thread nD τ).loc main_arg0))
      ∧ r.2.sem = fun _ => 0) :=
  (θ_run defs _ _).mono (fun r h => ⟨fun c => ⟨(h.1 c 1).trans (finalA_out m c), (h.1 c 0).trans (finalA_x m c)⟩, h.2⟩) (run_main m ρ)

end Cert.KernelIdealRun

end
-- ==== Proof.ReferenceValue.lean ====
/-
What the reference computes over the extended reals: at each place the sum of the two halves of its rows.
-/
module

public import proofs.«01_k».proof.Proof.Gen.ReferenceIdeal.Run
public import Idealize.ShloMosaic.Lib.Pointwise.Reduce
public import Idealize.ShloMosaic.Lib.Pipeline.Value

@[expose] public section

noncomputable section

namespace Cert.ReferenceValue

open Idealize.ShloMosaic
open Cert.ReferenceIdeal Cert.ReferenceIdeal.Gen

/-- The element of the `k`-th half of the 2048 rows at place `i` of that half. -/
def half (W : S2048x512.Idx → EReal) (k : Fin 2) (i : S1024x512.Idx) : EReal :=
  W (ix2 (⟨1024 * k.val + (i 0).val, by have h : (i 0).val < 1024 := (i 0).isLt; omega⟩ : Fin 2048) (⟨(i 1).val, (i 1).isLt⟩ : Fin 512))

/-- The sum of the two halves. -/
def total (W : S2048x512.Idx → EReal) : S1024x512.Idx → EReal := fun i => half W 0 i + half W 1 i

theorem cast_half (W : S2048x512.Idx → EReal) (k : Fin 2) (a : Fin 1024) (b : Fin 512) (i : S1024x512.Idx) (ha : a.val = (i 0).val)
    (hb : b.val = (i 1).val) : shapeCast S2x1024x512 W shapeCasts_S2048x512_S2x1024x512 (ix3 k a b) = half W k i := by
  refine shapeCast_apply W _ _ _ ?_
  rw [Shape.rowMajor_val_two, Shape.rowMajor_val_three]
  show (1024 * k.val + (i 0).val) * 512 + (i 1).val = (k.val * 1024 + a.val) * 512 + b.val
  omega

/-- The reference's result. -/
theorem reduce_eq (W : S2048x512.Idx → EReal) :
    (Host.reduceAdd (F := Ideal) (φ := .f32) (shapeCast S2x1024x512 W shapeCasts_S2048x512_S2x1024x512) (constant (F := Ideal) S_ .f32 0x00000000#32)
      reducesTo_S2x1024x512_S1024x512_d0 h_S_ : S1024x512.Idx → EReal) = total W := by
  funext i
  rw [Host.reduceAdd_apply, Ideal.hostReduceAdd_def, Ideal.hostReduceAdd_r3_a0, Fin.sum_univ_two]
  have h0 : (constant (F := Ideal) S_ .f32 0x00000000#32 (Shape.Idx.first h_S_) : EReal) = 0 := Ideal.ofBits_zero_f32
  rw [h0, zero_add]
  exact congrArg₂ _ (cast_half W 0 _ _ i rfl rfl) (cast_half W 1 _ _ i rfl rfl)

end Cert.ReferenceValue

end
-- ==== Proof.KernelIdealValue.lean ====
/-
The equation: over the extended reals every device's result is the reference's, the sum of the two blocks of `x`.
-/
module

public import proofs.«01_k».proof.Proof.KernelIdealResult
public import proofs.«01_k».proof.Proof.ReferenceValue
public import Idealize.ShloMosaic.Lib.Layout

@[expose] public section

noncomputable section

namespace Cert.KernelIdealRun

open Cert.KernelIdeal Cert.KernelIdeal.Gen Cert.ReferenceValue

open Idealize.ShloMosaic
open Idealize.ShloMosaic.TcCoe

variable (m : (ℓ : Loc nD τ sig) → Buf (Elt Ideal) ℓ)

/-- What is sent across the first axis is the chunk itself; -/
theorem XS_apply (c : Dev nD) (r : Fin 8) (j : S64x512.Idx) : (XS m c r j : EReal) = xv m c r j := by
  unfold XS k0_pay1
  simp only [shapeCast_self]
  rfl
/-- a device's sum is its own element and its neighbour's; -/
theorem SUM_apply (c : Dev nD) (r : Fin 8) (j : S64x512.Idx) : (SUM m c r j : EReal) = (xv m c r j : EReal) + (xv m (nx c) r j : EReal) := by
  rw [← XS_apply m (nx c)]
  unfold SUM k0_pay10
  simp only [shapeCast_self]
  rfl
/-- and what it receives is the other neighbour's sum. -/
theorem OTH_apply (c : Dev nD) (r : Fin 8) (j : S64x512.Idx) : (OTH m c r j : EReal) = SUM m (ny c) r j := by
  unfold OTH YS k0_pay26 k0_pay11 SUM
  simp only [shapeCast_self]
  rfl

/-- Devices that differ on the first axis sum the same rows; -/
theorem oR_nx (c : Dev nD) (r : Fin 8) (j : S64x512.Idx) : (oR (nx c) (false, r)).emb j = (oR c (false, r)).emb j :=
  funext fun a => Fin.ext (by
    have h : orow (nx c) false r = orow c false r := by unfold orow; rw [nx_mod]
    fin_cases a
    · show orow (nx c) false r + 1 * (j 0).val = orow c false r + 1 * (j 0).val
      rw [h]
    · rfl)
/-- what one sums is what its neighbour on the second axis receives. -/
theorem oR_ny (c : Dev nD) (r : Fin 8) (j : S64x512.Idx) : (oR (ny c) (false, r)).emb j = (oR c (true, r)).emb j :=
  funext fun a => Fin.ext (by
    have h : orow (ny c) false r = orow c true r := by revert c r; decide
    fin_cases a
    · show orow (ny c) false r + 1 * (j 0).val = orow c true r + 1 * (j 0).val
      rw [h]
    · rfl)

theorem sum_at (c : Dev nD) (r : Fin 8) (j : S64x512.Idx) :
    (SUM m c r j : EReal) = (xArr m c ((oR c (false, r)).emb j) : EReal) + (xArr m (nx c) ((oR c (false, r)).emb j) : EReal) := by
  rw [SUM_apply, xv_apply, xv_apply, oR_nx]

/-- When the devices along the first axis hold the halves of `W`, every device's result is the sum of the halves. -/
theorem outAt_eq (W : Cert.ReferenceIdeal.S2048x512.Idx → EReal)
    (hx : ∀ (c : Dev nD) (i : S1024x512.Idx), (xArr m c i : EReal) = half W ⟨c.val / 2, by have h : c.val < 4 := c.isLt; omega⟩ i) (c : Dev nD) :
    (outAt m c : S1024x512.Idx → EReal) = total W := by
  have hs (d : Dev nD) (i : S1024x512.Idx) : (xArr m d i : EReal) + (xArr m (nx d) i : EReal) = total W i := by
    rw [hx, hx]
    unfold total
    fin_cases d
    · rfl
    · rfl
    · exact add_comm _ _
    · exact add_comm _ _
  funext i
  have hi := oR_outJ c i
  unfold outAt res
  generalize outT c i = t at hi ⊢
  generalize outJ i = j at hi ⊢
  obtain ⟨b, r⟩ := t
  subst hi
  cases b
  · exact (sum_at m c r j).trans (hs c _)
  · exact (OTH_apply m c r j).trans ((sum_at m (ny c) r j).trans ((hs (ny c) _).trans (by rw [oR_ny])))

/-- A device's block of the whole array is the half its first mesh coordinate names. -/
theorem block_half (W : Cert.ReferenceIdeal.S2048x512.Idx → EReal) (c : Dev nD) (i : S1024x512.Idx) :
    (Layout.blockN ⟨2, ![1024, 512]⟩ ⟨2, ![2048, 512]⟩ (Layout.meshBlock [2, 2] ![[0], []] c) W : S1024x512.Idx → EReal) i
      = half W ⟨c.val / 2, by have h : c.val < 4 := c.isLt; omega⟩ i := by
  have hc : Layout.meshLin [2, 2] c.val [0] = c.val / 2 := by revert c; decide
  rw [Layout.blockN_apply]
  unfold half
  refine congrArg W (funext fun a => Fin.ext ?_)
  fin_cases a
  · show Layout.meshLin [2, 2] c.val [0] * 1024 + (i 0).val = 1024 * (c.val / 2) + (i 0).val
    rw [hc]; omega
  · show 0 * 512 + (i 1).val = (i 1).val
    omega

end Cert.KernelIdealRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelResult
public import proofs.«01_k».proof.Proof.KernelIdealValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel, at any floats, ends with `x` unchanged and every counter at zero; -/
theorem quiet : quiescent_Kernel (hKernel := Cert.Kernel.Gen.facts) := fun m g _ =>
  (θ_run _ _ _).mono (fun _ h => ⟨fun c => (h.1 c).2, h.2⟩) (Cert.KernelRun.run_result m g)

/-- so does the module read at the extended reals; -/
theorem quietIdeal : quiescent_KernelIdeal (hKernelIdeal := Cert.KernelIdeal.Gen.facts) := fun m g _ =>
  (θ_run _ _ _).mono (fun _ h => ⟨fun c => (h.1 c).2, h.2⟩) (Cert.KernelIdealRun.run_result m g)

/-- so does the reference, which has no semaphores. -/
theorem quietReference : quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- Both run, and every device's result is the reference's. -/
theorem equal : algebraic_KernelIdeal_ReferenceIdeal (hKernelIdeal := Cert.KernelIdeal.Gen.facts) (hReferenceIdeal := Cert.ReferenceIdeal.Gen.facts) := by
  intro m g m' g' _ hx
  refine ⟨Cert.ReferenceValue.total (m' (((0 : Dev Cert.ReferenceIdeal.nD).tc : Thread Cert.ReferenceIdeal.nD Cert.ReferenceIdeal.τ).loc Cert.ReferenceIdeal.main_arg0)), ?_, ?_⟩
  · refine (θ_run _ _ _).mono (fun r h c => ⟨(h.1 c).1.trans ?_, (h.1 c).2⟩) (Cert.KernelIdealRun.run_result m g)
    exact Cert.KernelIdealRun.outAt_eq m _ (fun d i => (congrFun (hx d) i).trans (Cert.KernelIdealRun.block_half _ d i)) c
  · refine (θ_run _ _ _).mono (fun r h => ⟨(h 0).1.trans ?_, (h 0).2⟩) (Cert.ReferenceIdeal.Value.run m' g')
    exact Cert.ReferenceValue.reduce_eq _

/-- Every claim of the certificate. -/
theorem claim : Cert.Claim :=
  ⟨Cert.Kernel.Gen.facts, Cert.KernelIdeal.Gen.facts, Cert.ReferenceIdeal.Gen.facts, quiet, quietIdeal, quietReference, trivial, equal⟩

end Cert.Proof

end
